-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S4x32x512 : Shape := ⟨3, ![4, 32, 512]⟩
abbrev S4x3x32x512 : Shape := ⟨4, ![4, 3, 32, 512]⟩
abbrev S4x3 : Shape := ⟨2, ![4, 3]⟩
abbrev S_ : Shape := ⟨0, ![]⟩
abbrev S1x1 : Shape := ⟨2, ![1, 1]⟩
abbrev S1x1x32x512 : Shape := ⟨4, ![1, 1, 32, 512]⟩
abbrev S32x512 : Shape := ⟨2, ![32, 512]⟩
abbrev S1x32x512 : Shape := ⟨3, ![1, 32, 512]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .bf16⟩
  | .hbm, ⟨1, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S512x512, .bf16⟩
  | .local _ .vmem, ⟨3, _⟩ => ⟨S4x32x512, .bf16⟩
  | .local _ .vmem, ⟨4, _⟩ => ⟨S4x3x32x512, .bf16⟩
  | .local _ .vmem, ⟨5, _⟩ => ⟨S4x3x32x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_31 : BitVec 32) (c0_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.addi v2 c2_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c128_i32 : BitVec 32 := 128#32
  let v59 : BitVec 32 := Scalar.muli v58 c128_i32
  let v60 : BitVec 32 := Scalar.addi v59 c0_i32_38
  let c0_i32_49 : BitVec 32 := 0#32
  ![v60.toNat, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v48 : BitVec 32 := Scalar.addi v2 c2_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c1_i32_45 : BitVec 32 := 1#32
  let v61 : BitVec 32 := Scalar.muli v58 c1_i32_45
  let v62 : BitVec 32 := Scalar.addi c0_i32_46 v61
  v62.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v70 : BitVec 32 := Scalar.addi v2 c1_i32_50
  let c4_i32_51 : BitVec 32 := 4#32
  let c0_i32_52 : BitVec 32 := 0#32
  let v71 : BitVec 1 := Scalar.cmpi .eq c4_i32_51 c0_i32_52
  let c1_i32_53 : BitVec 32 := 1#32
  let v72 : BitVec 32 := Scalar.select v71 c1_i32_53 c4_i32_51
  let v73 : BitVec 32 := Scalar.remsi v70 v72
  let c0_i32_55 : BitVec 32 := 0#32
  let v75 : BitVec 1 := Scalar.cmpi .slt v73 c0_i32_55
  let c0_i32_56 : BitVec 32 := 0#32
  let v76 : BitVec 1 := Scalar.cmpi .slt v72 c0_i32_56
  let v77 : BitVec 1 := Scalar.xori v75 v76
  let c0_i32_54 : BitVec 32 := 0#32
  let v74 : BitVec 1 := Scalar.cmpi .ne v73 c0_i32_54
  let v78 : BitVec 1 := Scalar.andi v77 v74
  let v79 : BitVec 32 := Scalar.addi v73 v72
  let v80 : BitVec 32 := Scalar.select v78 v79 v73
  let c1_i32_65 : BitVec 32 := 1#32
  let v83 : BitVec 32 := Scalar.muli v80 c1_i32_65
  let v84 : BitVec 32 := Scalar.addi c0_i32_66 v83
  v84.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_70 : BitVec 32 := 3#32
  let v92 : BitVec 32 := Scalar.addi v2 c3_i32_70
  let c4_i32_71 : BitVec 32 := 4#32
  let c0_i32_72 : BitVec 32 := 0#32
  let v93 : BitVec 1 := Scalar.cmpi .eq c4_i32_71 c0_i32_72
  let c1_i32_73 : BitVec 32 := 1#32
  let v94 : BitVec 32 := Scalar.select v93 c1_i32_73 c4_i32_71
  let v95 : BitVec 32 := Scalar.remsi v92 v94
  let c0_i32_75 : BitVec 32 := 0#32
  let v97 : BitVec 1 := Scalar.cmpi .slt v95 c0_i32_75
  let c0_i32_76 : BitVec 32 := 0#32
  let v98 : BitVec 1 := Scalar.cmpi .slt v94 c0_i32_76
  let v99 : BitVec 1 := Scalar.xori v97 v98
  let c0_i32_74 : BitVec 32 := 0#32
  let v96 : BitVec 1 := Scalar.cmpi .ne v95 c0_i32_74
  let v100 : BitVec 1 := Scalar.andi v99 v96
  let v101 : BitVec 32 := Scalar.addi v95 v94
  let v102 : BitVec 32 := Scalar.select v100 v101 v95
  let c1_i32_85 : BitVec 32 := 1#32
  let v105 : BitVec 32 := Scalar.muli v102 c1_i32_85
  let v106 : BitVec 32 := Scalar.addi c0_i32_86 v105
  v106.toNat
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_90 : BitVec 32 := 2#32
  let v114 : BitVec 32 := Scalar.addi v2 c2_i32_90
  let c4_i32_91 : BitVec 32 := 4#32
  let c0_i32_92 : BitVec 32 := 0#32
  let v115 : BitVec 1 := Scalar.cmpi .eq c4_i32_91 c0_i32_92
  let c1_i32_93 : BitVec 32 := 1#32
  let v116 : BitVec 32 := Scalar.select v115 c1_i32_93 c4_i32_91
  let v117 : BitVec 32 := Scalar.remsi v114 v116
  let c0_i32_95 : BitVec 32 := 0#32
  let v119 : BitVec 1 := Scalar.cmpi .slt v117 c0_i32_95
  let c0_i32_96 : BitVec 32 := 0#32
  let v120 : BitVec 1 := Scalar.cmpi .slt v116 c0_i32_96
  let v121 : BitVec 1 := Scalar.xori v119 v120
  let c0_i32_94 : BitVec 32 := 0#32
  let v118 : BitVec 1 := Scalar.cmpi .ne v117 c0_i32_94
  let v122 : BitVec 1 := Scalar.andi v121 v118
  let v123 : BitVec 32 := Scalar.addi v117 v116
  let v124 : BitVec 32 := Scalar.select v122 v123 v117
  let c1_i32_104 : BitVec 32 := 1#32
  let v127 : BitVec 32 := Scalar.muli v124 c1_i32_104
  let v128 : BitVec 32 := Scalar.addi c0_i32_105 v127
  v128.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v136 : BitVec 32 := Scalar.addi v2 c1_i32_109
  let c4_i32_110 : BitVec 32 := 4#32
  let c0_i32_111 : BitVec 32 := 0#32
  let v137 : BitVec 1 := Scalar.cmpi .eq c4_i32_110 c0_i32_111
  let c1_i32_112 : BitVec 32 := 1#32
  let v138 : BitVec 32 := Scalar.select v137 c1_i32_112 c4_i32_110
  let v139 : BitVec 32 := Scalar.remsi v136 v138
  let c0_i32_114 : BitVec 32 := 0#32
  let v141 : BitVec 1 := Scalar.cmpi .slt v139 c0_i32_114
  let c0_i32_115 : BitVec 32 := 0#32
  let v142 : BitVec 1 := Scalar.cmpi .slt v138 c0_i32_115
  let v143 : BitVec 1 := Scalar.xori v141 v142
  let c0_i32_113 : BitVec 32 := 0#32
  let v140 : BitVec 1 := Scalar.cmpi .ne v139 c0_i32_113
  let v144 : BitVec 1 := Scalar.andi v143 v140
  let v145 : BitVec 32 := Scalar.addi v139 v138
  let v146 : BitVec 32 := Scalar.select v144 v145 v139
  let c1_i32_124 : BitVec 32 := 1#32
  let v149 : BitVec 32 := Scalar.muli v146 c1_i32_124
  let v150 : BitVec 32 := Scalar.addi c0_i32_125 v149
  v150.toNat
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_129 : BitVec 32 := 3#32
  let v158 : BitVec 32 := Scalar.addi v2 c3_i32_129
  let c4_i32_130 : BitVec 32 := 4#32
  let c0_i32_131 : BitVec 32 := 0#32
  let v159 : BitVec 1 := Scalar.cmpi .eq c4_i32_130 c0_i32_131
  let c1_i32_132 : BitVec 32 := 1#32
  let v160 : BitVec 32 := Scalar.select v159 c1_i32_132 c4_i32_130
  let v161 : BitVec 32 := Scalar.remsi v158 v160
  let c0_i32_134 : BitVec 32 := 0#32
  let v163 : BitVec 1 := Scalar.cmpi .slt v161 c0_i32_134
  let c0_i32_135 : BitVec 32 := 0#32
  let v164 : BitVec 1 := Scalar.cmpi .slt v160 c0_i32_135
  let v165 : BitVec 1 := Scalar.xori v163 v164
  let c0_i32_133 : BitVec 32 := 0#32
  let v162 : BitVec 1 := Scalar.cmpi .ne v161 c0_i32_133
  let v166 : BitVec 1 := Scalar.andi v165 v162
  let v167 : BitVec 32 := Scalar.addi v161 v160
  let v168 : BitVec 32 := Scalar.select v166 v167 v161
  let c1_i32_144 : BitVec 32 := 1#32
  let v171 : BitVec 32 := Scalar.muli v168 c1_i32_144
  let v172 : BitVec 32 := Scalar.addi c0_i32_145 v171
  v172.toNat
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_149 : BitVec 32 := 2#32
  let v180 : BitVec 32 := Scalar.addi v2 c2_i32_149
  let c4_i32_150 : BitVec 32 := 4#32
  let c0_i32_151 : BitVec 32 := 0#32
  let v181 : BitVec 1 := Scalar.cmpi .eq c4_i32_150 c0_i32_151
  let c1_i32_152 : BitVec 32 := 1#32
  let v182 : BitVec 32 := Scalar.select v181 c1_i32_152 c4_i32_150
  let v183 : BitVec 32 := Scalar.remsi v180 v182
  let c0_i32_154 : BitVec 32 := 0#32
  let v185 : BitVec 1 := Scalar.cmpi .slt v183 c0_i32_154
  let c0_i32_155 : BitVec 32 := 0#32
  let v186 : BitVec 1 := Scalar.cmpi .slt v182 c0_i32_155
  let v187 : BitVec 1 := Scalar.xori v185 v186
  let c0_i32_153 : BitVec 32 := 0#32
  let v184 : BitVec 1 := Scalar.cmpi .ne v183 c0_i32_153
  let v188 : BitVec 1 := Scalar.andi v187 v184
  let v189 : BitVec 32 := Scalar.addi v183 v182
  let v190 : BitVec 32 := Scalar.select v188 v189 v183
  let c1_i32_163 : BitVec 32 := 1#32
  let v193 : BitVec 32 := Scalar.muli v190 c1_i32_163
  let v194 : BitVec 32 := Scalar.addi c0_i32_164 v193
  v194.toNat
def k0_dev11 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_168 : BitVec 32 := 1#32
  let v202 : BitVec 32 := Scalar.addi v2 c1_i32_168
  let c4_i32_169 : BitVec 32 := 4#32
  let c0_i32_170 : BitVec 32 := 0#32
  let v203 : BitVec 1 := Scalar.cmpi .eq c4_i32_169 c0_i32_170
  let c1_i32_171 : BitVec 32 := 1#32
  let v204 : BitVec 32 := Scalar.select v203 c1_i32_171 c4_i32_169
  let v205 : BitVec 32 := Scalar.remsi v202 v204
  let c0_i32_173 : BitVec 32 := 0#32
  let v207 : BitVec 1 := Scalar.cmpi .slt v205 c0_i32_173
  let c0_i32_174 : BitVec 32 := 0#32
  let v208 : BitVec 1 := Scalar.cmpi .slt v204 c0_i32_174
  let v209 : BitVec 1 := Scalar.xori v207 v208
  let c0_i32_172 : BitVec 32 := 0#32
  let v206 : BitVec 1 := Scalar.cmpi .ne v205 c0_i32_172
  let v210 : BitVec 1 := Scalar.andi v209 v206
  let v211 : BitVec 32 := Scalar.addi v205 v204
  let v212 : BitVec 32 := Scalar.select v210 v211 v205
  let c1_i32_183 : BitVec 32 := 1#32
  let v215 : BitVec 32 := Scalar.muli v212 c1_i32_183
  let v216 : BitVec 32 := Scalar.addi c0_i32_184 v215
  v216.toNat
def k0_dev12 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_188 : BitVec 32 := 3#32
  let v224 : BitVec 32 := Scalar.addi v2 c3_i32_188
  let c4_i32_189 : BitVec 32 := 4#32
  let c0_i32_190 : BitVec 32 := 0#32
  let v225 : BitVec 1 := Scalar.cmpi .eq c4_i32_189 c0_i32_190
  let c1_i32_191 : BitVec 32 := 1#32
  let v226 : BitVec 32 := Scalar.select v225 c1_i32_191 c4_i32_189
  let v227 : BitVec 32 := Scalar.remsi v224 v226
  let c0_i32_193 : BitVec 32 := 0#32
  let v229 : BitVec 1 := Scalar.cmpi .slt v227 c0_i32_193
  let c0_i32_194 : BitVec 32 := 0#32
  let v230 : BitVec 1 := Scalar.cmpi .slt v226 c0_i32_194
  let v231 : BitVec 1 := Scalar.xori v229 v230
  let c0_i32_192 : BitVec 32 := 0#32
  let v228 : BitVec 1 := Scalar.cmpi .ne v227 c0_i32_192
  let v232 : BitVec 1 := Scalar.andi v231 v228
  let v233 : BitVec 32 := Scalar.addi v227 v226
  let v234 : BitVec 32 := Scalar.select v232 v233 v227
  let c1_i32_203 : BitVec 32 := 1#32
  let v237 : BitVec 32 := Scalar.muli v234 c1_i32_203
  let v238 : BitVec 32 := Scalar.addi c0_i32_204 v237
  v238.toNat
def k0_dev13 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_208 : BitVec 32 := 2#32
  let v246 : BitVec 32 := Scalar.addi v2 c2_i32_208
  let c4_i32_209 : BitVec 32 := 4#32
  let c0_i32_210 : BitVec 32 := 0#32
  let v247 : BitVec 1 := Scalar.cmpi .eq c4_i32_209 c0_i32_210
  let c1_i32_211 : BitVec 32 := 1#32
  let v248 : BitVec 32 := Scalar.select v247 c1_i32_211 c4_i32_209
  let v249 : BitVec 32 := Scalar.remsi v246 v248
  let c0_i32_213 : BitVec 32 := 0#32
  let v251 : BitVec 1 := Scalar.cmpi .slt v249 c0_i32_213
  let c0_i32_214 : BitVec 32 := 0#32
  let v252 : BitVec 1 := Scalar.cmpi .slt v248 c0_i32_214
  let v253 : BitVec 1 := Scalar.xori v251 v252
  let c0_i32_212 : BitVec 32 := 0#32
  let v250 : BitVec 1 := Scalar.cmpi .ne v249 c0_i32_212
  let v254 : BitVec 1 := Scalar.andi v253 v250
  let v255 : BitVec 32 := Scalar.addi v249 v248
  let v256 : BitVec 32 := Scalar.select v254 v255 v249
  let c1_i32_222 : BitVec 32 := 1#32
  let v259 : BitVec 32 := Scalar.muli v256 c1_i32_222
  let v260 : BitVec 32 := Scalar.addi c0_i32_223 v259
  v260.toNat
def k0_dev14 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_227 : BitVec 32 := 1#32
  let v268 : BitVec 32 := Scalar.addi v2 c1_i32_227
  let c4_i32_228 : BitVec 32 := 4#32
  let c0_i32_229 : BitVec 32 := 0#32
  let v269 : BitVec 1 := Scalar.cmpi .eq c4_i32_228 c0_i32_229
  let c1_i32_230 : BitVec 32 := 1#32
  let v270 : BitVec 32 := Scalar.select v269 c1_i32_230 c4_i32_228
  let v271 : BitVec 32 := Scalar.remsi v268 v270
  let c0_i32_232 : BitVec 32 := 0#32
  let v273 : BitVec 1 := Scalar.cmpi .slt v271 c0_i32_232
  let c0_i32_233 : BitVec 32 := 0#32
  let v274 : BitVec 1 := Scalar.cmpi .slt v270 c0_i32_233
  let v275 : BitVec 1 := Scalar.xori v273 v274
  let c0_i32_231 : BitVec 32 := 0#32
  let v272 : BitVec 1 := Scalar.cmpi .ne v271 c0_i32_231
  let v276 : BitVec 1 := Scalar.andi v275 v272
  let v277 : BitVec 32 := Scalar.addi v271 v270
  let v278 : BitVec 32 := Scalar.select v276 v277 v271
  let c1_i32_242 : BitVec 32 := 1#32
  let v281 : BitVec 32 := Scalar.muli v278 c1_i32_242
  let v282 : BitVec 32 := Scalar.addi c0_i32_243 v281
  v282.toNat
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_247 : BitVec 32 := 3#32
  let v290 : BitVec 32 := Scalar.addi v2 c3_i32_247
  let c4_i32_248 : BitVec 32 := 4#32
  let c0_i32_249 : BitVec 32 := 0#32
  let v291 : BitVec 1 := Scalar.cmpi .eq c4_i32_248 c0_i32_249
  let c1_i32_250 : BitVec 32 := 1#32
  let v292 : BitVec 32 := Scalar.select v291 c1_i32_250 c4_i32_248
  let v293 : BitVec 32 := Scalar.remsi v290 v292
  let c0_i32_252 : BitVec 32 := 0#32
  let v295 : BitVec 1 := Scalar.cmpi .slt v293 c0_i32_252
  let c0_i32_253 : BitVec 32 := 0#32
  let v296 : BitVec 1 := Scalar.cmpi .slt v292 c0_i32_253
  let v297 : BitVec 1 := Scalar.xori v295 v296
  let c0_i32_251 : BitVec 32 := 0#32
  let v294 : BitVec 1 := Scalar.cmpi .ne v293 c0_i32_251
  let v298 : BitVec 1 := Scalar.andi v297 v294
  let v299 : BitVec 32 := Scalar.addi v293 v292
  let v300 : BitVec 32 := Scalar.select v298 v299 v293
  let c1_i32_262 : BitVec 32 := 1#32
  let v303 : BitVec 32 := Scalar.muli v300 c1_i32_262
  let v304 : BitVec 32 := Scalar.addi c0_i32_263 v303
  v304.toNat
def k0_off2 (d0 : Dev nD) (c0_i32_268 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_267 : BitVec 32 := 128#32
  let v312 : BitVec 32 := Scalar.muli v2 c128_i32_267
  let v313 : BitVec 32 := Scalar.addi v312 c0_i32_268
  let v314 : Index := Scalar.indexCast v313
  let c0_269 : Index := 0#32
  ![v314.toNat, 0]
def k0_dev16 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_316 : BitVec 32 := 2#32
  let v355 : BitVec 32 := Scalar.addi v2 c2_i32_316
  let c4_i32_317 : BitVec 32 := 4#32
  let c0_i32_318 : BitVec 32 := 0#32
  let v356 : BitVec 1 := Scalar.cmpi .eq c4_i32_317 c0_i32_318
  let c1_i32_319 : BitVec 32 := 1#32
  let v357 : BitVec 32 := Scalar.select v356 c1_i32_319 c4_i32_317
  let v358 : BitVec 32 := Scalar.remsi v355 v357
  let c0_i32_321 : BitVec 32 := 0#32
  let v360 : BitVec 1 := Scalar.cmpi .slt v358 c0_i32_321
  let c0_i32_322 : BitVec 32 := 0#32
  let v361 : BitVec 1 := Scalar.cmpi .slt v357 c0_i32_322
  let v362 : BitVec 1 := Scalar.xori v360 v361
  let c0_i32_320 : BitVec 32 := 0#32
  let v359 : BitVec 1 := Scalar.cmpi .ne v358 c0_i32_320
  let v363 : BitVec 1 := Scalar.andi v362 v359
  let v364 : BitVec 32 := Scalar.addi v358 v357
  let v365 : BitVec 32 := Scalar.select v363 v364 v358
  let c1_i32_330 : BitVec 32 := 1#32
  let v366 : BitVec 32 := Scalar.muli v365 c1_i32_330
  let v367 : BitVec 32 := Scalar.addi c0_i32_331 v366
  v367.toNat
def k0_dev17 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_336 : BitVec 32 := 1#32
  let v376 : BitVec 32 := Scalar.addi v2 c1_i32_336
  let c4_i32_337 : BitVec 32 := 4#32
  let c0_i32_338 : BitVec 32 := 0#32
  let v377 : BitVec 1 := Scalar.cmpi .eq c4_i32_337 c0_i32_338
  let c1_i32_339 : BitVec 32 := 1#32
  let v378 : BitVec 32 := Scalar.select v377 c1_i32_339 c4_i32_337
  let v379 : BitVec 32 := Scalar.remsi v376 v378
  let c0_i32_341 : BitVec 32 := 0#32
  let v381 : BitVec 1 := Scalar.cmpi .slt v379 c0_i32_341
  let c0_i32_342 : BitVec 32 := 0#32
  let v382 : BitVec 1 := Scalar.cmpi .slt v378 c0_i32_342
  let v383 : BitVec 1 := Scalar.xori v381 v382
  let c0_i32_340 : BitVec 32 := 0#32
  let v380 : BitVec 1 := Scalar.cmpi .ne v379 c0_i32_340
  let v384 : BitVec 1 := Scalar.andi v383 v380
  let v385 : BitVec 32 := Scalar.addi v379 v378
  let v386 : BitVec 32 := Scalar.select v384 v385 v379
  let c1_i32_350 : BitVec 32 := 1#32
  let v387 : BitVec 32 := Scalar.muli v386 c1_i32_350
  let v388 : BitVec 32 := Scalar.addi c0_i32_351 v387
  v388.toNat
def k0_dev18 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_356 : BitVec 32 := 3#32
  let v397 : BitVec 32 := Scalar.addi v2 c3_i32_356
  let c4_i32_357 : BitVec 32 := 4#32
  let c0_i32_358 : BitVec 32 := 0#32
  let v398 : BitVec 1 := Scalar.cmpi .eq c4_i32_357 c0_i32_358
  let c1_i32_359 : BitVec 32 := 1#32
  let v399 : BitVec 32 := Scalar.select v398 c1_i32_359 c4_i32_357
  let v400 : BitVec 32 := Scalar.remsi v397 v399
  let c0_i32_361 : BitVec 32 := 0#32
  let v402 : BitVec 1 := Scalar.cmpi .slt v400 c0_i32_361
  let c0_i32_362 : BitVec 32 := 0#32
  let v403 : BitVec 1 := Scalar.cmpi .slt v399 c0_i32_362
  let v404 : BitVec 1 := Scalar.xori v402 v403
  let c0_i32_360 : BitVec 32 := 0#32
  let v401 : BitVec 1 := Scalar.cmpi .ne v400 c0_i32_360
  let v405 : BitVec 1 := Scalar.andi v404 v401
  let v406 : BitVec 32 := Scalar.addi v400 v399
  let v407 : BitVec 32 := Scalar.select v405 v406 v400
  let c1_i32_370 : BitVec 32 := 1#32
  let v408 : BitVec 32 := Scalar.muli v407 c1_i32_370
  let v409 : BitVec 32 := Scalar.addi c0_i32_371 v408
  v409.toNat
def k0_dev19 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_430 : BitVec 32 := 2#32
  let v465 : BitVec 32 := Scalar.addi v2 c2_i32_430
  let c4_i32_431 : BitVec 32 := 4#32
  let c0_i32_432 : BitVec 32 := 0#32
  let v466 : BitVec 1 := Scalar.cmpi .eq c4_i32_431 c0_i32_432
  let c1_i32_433 : BitVec 32 := 1#32
  let v467 : BitVec 32 := Scalar.select v466 c1_i32_433 c4_i32_431
  let v468 : BitVec 32 := Scalar.remsi v465 v467
  let c0_i32_435 : BitVec 32 := 0#32
  let v470 : BitVec 1 := Scalar.cmpi .slt v468 c0_i32_435
  let c0_i32_436 : BitVec 32 := 0#32
  let v471 : BitVec 1 := Scalar.cmpi .slt v467 c0_i32_436
  let v472 : BitVec 1 := Scalar.xori v470 v471
  let c0_i32_434 : BitVec 32 := 0#32
  let v469 : BitVec 1 := Scalar.cmpi .ne v468 c0_i32_434
  let v473 : BitVec 1 := Scalar.andi v472 v469
  let v474 : BitVec 32 := Scalar.addi v468 v467
  let v475 : BitVec 32 := Scalar.select v473 v474 v468
  let c1_i32_444 : BitVec 32 := 1#32
  let v476 : BitVec 32 := Scalar.muli v475 c1_i32_444
  let v477 : BitVec 32 := Scalar.addi c0_i32_445 v476
  v477.toNat
def k0_dev20 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_450 : BitVec 32 := 1#32
  let v486 : BitVec 32 := Scalar.addi v2 c1_i32_450
  let c4_i32_451 : BitVec 32 := 4#32
  let c0_i32_452 : BitVec 32 := 0#32
  let v487 : BitVec 1 := Scalar.cmpi .eq c4_i32_451 c0_i32_452
  let c1_i32_453 : BitVec 32 := 1#32
  let v488 : BitVec 32 := Scalar.select v487 c1_i32_453 c4_i32_451
  let v489 : BitVec 32 := Scalar.remsi v486 v488
  let c0_i32_455 : BitVec 32 := 0#32
  let v491 : BitVec 1 := Scalar.cmpi .slt v489 c0_i32_455
  let c0_i32_456 : BitVec 32 := 0#32
  let v492 : BitVec 1 := Scalar.cmpi .slt v488 c0_i32_456
  let v493 : BitVec 1 := Scalar.xori v491 v492
  let c0_i32_454 : BitVec 32 := 0#32
  let v490 : BitVec 1 := Scalar.cmpi .ne v489 c0_i32_454
  let v494 : BitVec 1 := Scalar.andi v493 v490
  let v495 : BitVec 32 := Scalar.addi v489 v488
  let v496 : BitVec 32 := Scalar.select v494 v495 v489
  let c1_i32_464 : BitVec 32 := 1#32
  let v497 : BitVec 32 := Scalar.muli v496 c1_i32_464
  let v498 : BitVec 32 := Scalar.addi c0_i32_465 v497
  v498.toNat
def k0_dev21 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_470 : BitVec 32 := 3#32
  let v507 : BitVec 32 := Scalar.addi v2 c3_i32_470
  let c4_i32_471 : BitVec 32 := 4#32
  let c0_i32_472 : BitVec 32 := 0#32
  let v508 : BitVec 1 := Scalar.cmpi .eq c4_i32_471 c0_i32_472
  let c1_i32_473 : BitVec 32 := 1#32
  let v509 : BitVec 32 := Scalar.select v508 c1_i32_473 c4_i32_471
  let v510 : BitVec 32 := Scalar.remsi v507 v509
  let c0_i32_475 : BitVec 32 := 0#32
  let v512 : BitVec 1 := Scalar.cmpi .slt v510 c0_i32_475
  let c0_i32_476 : BitVec 32 := 0#32
  let v513 : BitVec 1 := Scalar.cmpi .slt v509 c0_i32_476
  let v514 : BitVec 1 := Scalar.xori v512 v513
  let c0_i32_474 : BitVec 32 := 0#32
  let v511 : BitVec 1 := Scalar.cmpi .ne v510 c0_i32_474
  let v515 : BitVec 1 := Scalar.andi v514 v511
  let v516 : BitVec 32 := Scalar.addi v510 v509
  let v517 : BitVec 32 := Scalar.select v515 v516 v510
  let c1_i32_484 : BitVec 32 := 1#32
  let v518 : BitVec 32 := Scalar.muli v517 c1_i32_484
  let v519 : BitVec 32 := Scalar.addi c0_i32_485 v518
  v519.toNat
def k0_dev22 (d0 : Dev nD) : Nat :=
  let c0_i32_559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_544 : BitVec 32 := 2#32
  let v575 : BitVec 32 := Scalar.addi v2 c2_i32_544
  let c4_i32_545 : BitVec 32 := 4#32
  let c0_i32_546 : BitVec 32 := 0#32
  let v576 : BitVec 1 := Scalar.cmpi .eq c4_i32_545 c0_i32_546
  let c1_i32_547 : BitVec 32 := 1#32
  let v577 : BitVec 32 := Scalar.select v576 c1_i32_547 c4_i32_545
  let v578 : BitVec 32 := Scalar.remsi v575 v577
  let c0_i32_549 : BitVec 32 := 0#32
  let v580 : BitVec 1 := Scalar.cmpi .slt v578 c0_i32_549
  let c0_i32_550 : BitVec 32 := 0#32
  let v581 : BitVec 1 := Scalar.cmpi .slt v577 c0_i32_550
  let v582 : BitVec 1 := Scalar.xori v580 v581
  let c0_i32_548 : BitVec 32 := 0#32
  let v579 : BitVec 1 := Scalar.cmpi .ne v578 c0_i32_548
  let v583 : BitVec 1 := Scalar.andi v582 v579
  let v584 : BitVec 32 := Scalar.addi v578 v577
  let v585 : BitVec 32 := Scalar.select v583 v584 v578
  let c1_i32_558 : BitVec 32 := 1#32
  let v586 : BitVec 32 := Scalar.muli v585 c1_i32_558
  let v587 : BitVec 32 := Scalar.addi c0_i32_559 v586
  v587.toNat
def k0_dev23 (d0 : Dev nD) : Nat :=
  let c0_i32_579 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_564 : BitVec 32 := 1#32
  let v596 : BitVec 32 := Scalar.addi v2 c1_i32_564
  let c4_i32_565 : BitVec 32 := 4#32
  let c0_i32_566 : BitVec 32 := 0#32
  let v597 : BitVec 1 := Scalar.cmpi .eq c4_i32_565 c0_i32_566
  let c1_i32_567 : BitVec 32 := 1#32
  let v598 : BitVec 32 := Scalar.select v597 c1_i32_567 c4_i32_565
  let v599 : BitVec 32 := Scalar.remsi v596 v598
  let c0_i32_569 : BitVec 32 := 0#32
  let v601 : BitVec 1 := Scalar.cmpi .slt v599 c0_i32_569
  let c0_i32_570 : BitVec 32 := 0#32
  let v602 : BitVec 1 := Scalar.cmpi .slt v598 c0_i32_570
  let v603 : BitVec 1 := Scalar.xori v601 v602
  let c0_i32_568 : BitVec 32 := 0#32
  let v600 : BitVec 1 := Scalar.cmpi .ne v599 c0_i32_568
  let v604 : BitVec 1 := Scalar.andi v603 v600
  let v605 : BitVec 32 := Scalar.addi v599 v598
  let v606 : BitVec 32 := Scalar.select v604 v605 v599
  let c1_i32_578 : BitVec 32 := 1#32
  let v607 : BitVec 32 := Scalar.muli v606 c1_i32_578
  let v608 : BitVec 32 := Scalar.addi c0_i32_579 v607
  v608.toNat
def k0_dev24 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_584 : BitVec 32 := 3#32
  let v617 : BitVec 32 := Scalar.addi v2 c3_i32_584
  let c4_i32_585 : BitVec 32 := 4#32
  let c0_i32_586 : BitVec 32 := 0#32
  let v618 : BitVec 1 := Scalar.cmpi .eq c4_i32_585 c0_i32_586
  let c1_i32_587 : BitVec 32 := 1#32
  let v619 : BitVec 32 := Scalar.select v618 c1_i32_587 c4_i32_585
  let v620 : BitVec 32 := Scalar.remsi v617 v619
  let c0_i32_589 : BitVec 32 := 0#32
  let v622 : BitVec 1 := Scalar.cmpi .slt v620 c0_i32_589
  let c0_i32_590 : BitVec 32 := 0#32
  let v623 : BitVec 1 := Scalar.cmpi .slt v619 c0_i32_590
  let v624 : BitVec 1 := Scalar.xori v622 v623
  let c0_i32_588 : BitVec 32 := 0#32
  let v621 : BitVec 1 := Scalar.cmpi .ne v620 c0_i32_588
  let v625 : BitVec 1 := Scalar.andi v624 v621
  let v626 : BitVec 32 := Scalar.addi v620 v619
  let v627 : BitVec 32 := Scalar.select v625 v626 v620
  let c1_i32_598 : BitVec 32 := 1#32
  let v628 : BitVec 32 := Scalar.muli v627 c1_i32_598
  let v629 : BitVec 32 := Scalar.addi c0_i32_599 v628
  v629.toNat
def k0_dev25 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_657 : BitVec 32 := 2#32
  let v685 : BitVec 32 := Scalar.addi v2 c2_i32_657
  let c4_i32_658 : BitVec 32 := 4#32
  let c0_i32_659 : BitVec 32 := 0#32
  let v686 : BitVec 1 := Scalar.cmpi .eq c4_i32_658 c0_i32_659
  let c1_i32_660 : BitVec 32 := 1#32
  let v687 : BitVec 32 := Scalar.select v686 c1_i32_660 c4_i32_658
  let v688 : BitVec 32 := Scalar.remsi v685 v687
  let c0_i32_662 : BitVec 32 := 0#32
  let v690 : BitVec 1 := Scalar.cmpi .slt v688 c0_i32_662
  let c0_i32_663 : BitVec 32 := 0#32
  let v691 : BitVec 1 := Scalar.cmpi .slt v687 c0_i32_663
  let v692 : BitVec 1 := Scalar.xori v690 v691
  let c0_i32_661 : BitVec 32 := 0#32
  let v689 : BitVec 1 := Scalar.cmpi .ne v688 c0_i32_661
  let v693 : BitVec 1 := Scalar.andi v692 v689
  let v694 : BitVec 32 := Scalar.addi v688 v687
  let v695 : BitVec 32 := Scalar.select v693 v694 v688
  let c1_i32_671 : BitVec 32 := 1#32
  let v696 : BitVec 32 := Scalar.muli v695 c1_i32_671
  let v697 : BitVec 32 := Scalar.addi c0_i32_672 v696
  v697.toNat
def k0_dev26 (d0 : Dev nD) : Nat :=
  let c0_i32_692 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_677 : BitVec 32 := 1#32
  let v706 : BitVec 32 := Scalar.addi v2 c1_i32_677
  let c4_i32_678 : BitVec 32 := 4#32
  let c0_i32_679 : BitVec 32 := 0#32
  let v707 : BitVec 1 := Scalar.cmpi .eq c4_i32_678 c0_i32_679
  let c1_i32_680 : BitVec 32 := 1#32
  let v708 : BitVec 32 := Scalar.select v707 c1_i32_680 c4_i32_678
  let v709 : BitVec 32 := Scalar.remsi v706 v708
  let c0_i32_682 : BitVec 32 := 0#32
  let v711 : BitVec 1 := Scalar.cmpi .slt v709 c0_i32_682
  let c0_i32_683 : BitVec 32 := 0#32
  let v712 : BitVec 1 := Scalar.cmpi .slt v708 c0_i32_683
  let v713 : BitVec 1 := Scalar.xori v711 v712
  let c0_i32_681 : BitVec 32 := 0#32
  let v710 : BitVec 1 := Scalar.cmpi .ne v709 c0_i32_681
  let v714 : BitVec 1 := Scalar.andi v713 v710
  let v715 : BitVec 32 := Scalar.addi v709 v708
  let v716 : BitVec 32 := Scalar.select v714 v715 v709
  let c1_i32_691 : BitVec 32 := 1#32
  let v717 : BitVec 32 := Scalar.muli v716 c1_i32_691
  let v718 : BitVec 32 := Scalar.addi c0_i32_692 v717
  v718.toNat
def k0_dev27 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_697 : BitVec 32 := 3#32
  let v727 : BitVec 32 := Scalar.addi v2 c3_i32_697
  let c4_i32_698 : BitVec 32 := 4#32
  let c0_i32_699 : BitVec 32 := 0#32
  let v728 : BitVec 1 := Scalar.cmpi .eq c4_i32_698 c0_i32_699
  let c1_i32_700 : BitVec 32 := 1#32
  let v729 : BitVec 32 := Scalar.select v728 c1_i32_700 c4_i32_698
  let v730 : BitVec 32 := Scalar.remsi v727 v729
  let c0_i32_702 : BitVec 32 := 0#32
  let v732 : BitVec 1 := Scalar.cmpi .slt v730 c0_i32_702
  let c0_i32_703 : BitVec 32 := 0#32
  let v733 : BitVec 1 := Scalar.cmpi .slt v729 c0_i32_703
  let v734 : BitVec 1 := Scalar.xori v732 v733
  let c0_i32_701 : BitVec 32 := 0#32
  let v731 : BitVec 1 := Scalar.cmpi .ne v730 c0_i32_701
  let v735 : BitVec 1 := Scalar.andi v734 v731
  let v736 : BitVec 32 := Scalar.addi v730 v729
  let v737 : BitVec 32 := Scalar.select v735 v736 v730
  let c1_i32_711 : BitVec 32 := 1#32
  let v738 : BitVec 32 := Scalar.muli v737 c1_i32_711
  let v739 : BitVec 32 := Scalar.addi c0_i32_712 v738
  v739.toNat
def k0_off3 (d0 : Dev nD) (c2_i32_733 : BitVec 32) (c0_i32_746 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v760 : BitVec 32 := Scalar.addi v2 c2_i32_733
  let c1_i32_734 : BitVec 32 := 1#32
  let v761 : BitVec 32 := Scalar.addi v760 c1_i32_734
  let c4_i32_735 : BitVec 32 := 4#32
  let c0_i32_736 : BitVec 32 := 0#32
  let v762 : BitVec 1 := Scalar.cmpi .eq c4_i32_735 c0_i32_736
  let c1_i32_737 : BitVec 32 := 1#32
  let v763 : BitVec 32 := Scalar.select v762 c1_i32_737 c4_i32_735
  let v764 : BitVec 32 := Scalar.remsi v761 v763
  let c0_i32_739 : BitVec 32 := 0#32
  let v766 : BitVec 1 := Scalar.cmpi .slt v764 c0_i32_739
  let c0_i32_740 : BitVec 32 := 0#32
  let v767 : BitVec 1 := Scalar.cmpi .slt v763 c0_i32_740
  let v768 : BitVec 1 := Scalar.xori v766 v767
  let c0_i32_738 : BitVec 32 := 0#32
  let v765 : BitVec 1 := Scalar.cmpi .ne v764 c0_i32_738
  let v769 : BitVec 1 := Scalar.andi v768 v765
  let v770 : BitVec 32 := Scalar.addi v764 v763
  let v771 : BitVec 32 := Scalar.select v769 v770 v764
  let c128_i32_745 : BitVec 32 := 128#32
  let v775 : BitVec 32 := Scalar.muli v771 c128_i32_745
  let v776 : BitVec 32 := Scalar.addi v775 c0_i32_746
  let v777 : Index := Scalar.indexCast v776
  let c0_747 : Index := 0#32
  ![v777.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .hbm, ⟨2, _⟩ => ⟨S4x512x512, .f32⟩
  | .hbm, ⟨3, _⟩ => ⟨S_, .f32⟩
  | .hbm, ⟨4, _⟩ => ⟨S512x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Pieces.lean ====
/-
# The pieces the buffers are dealt in

Every copy moves 32 rows of 512 bf16. The device's own input block (512 rows) and its result are cut into sixteen such row
pieces, one for each device `d` and row block `h`, at row `128 d + 32 h`. The buffer of reduced rows holds four pieces,
one for each row block; the two landing buffers hold twelve each, one for each row block and slot. The pieces of a buffer
are apart from one another and make up all of it, and a piece is read at an index where the buffer holds that entry.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.Value
public import Idealize.ShloMosaic.Lib.Exec.Geometry

@[expose] public section

noncomputable section

namespace Cert.AllReduce

open Cert.KernelIdeal Cert.KernelIdeal.Gen
open Idealize.ShloMosaic

/-! ## The buffers and their pieces -/

/-- The staging buffer of the argument. -/
abbrev inM : Memref sig .tc .vmem S512x512 .bf16 := Memref.whole cc0_stg0_0
/-- The staging buffer of the result. -/
abbrev outM : Memref sig .tc .vmem S512x512 .f32 := Memref.whole cc0_stg1_0
/-- The block in bf16. -/
abbrev xbM : Memref sig .tc .vmem S512x512 .bf16 := Memref.whole cc0_scratch0
/-- The reduced rows. -/
abbrev redM : Memref sig .tc .vmem S4x32x512 .bf16 := Memref.whole cc0_scratch1
/-- The landing buffer of the scattered pieces. -/
abbrev rsM : Memref sig .tc .vmem S4x3x32x512 .bf16 := Memref.whole cc0_scratch2
/-- The landing buffer of the gathered pieces. -/
abbrev agM : Memref sig .tc .vmem S4x3x32x512 .bf16 := Memref.whole cc0_scratch3

/-- Where the rows of a piece begin in the block. -/
abbrev rowOff (d : Fin 4) (h : Fin 4) : Fin 2 → ℕ := ![128 * d.val + 32 * h.val, 0]
/-- Where a row block's slab begins. -/
abbrev redOff (h : Fin 4) : Fin 3 → ℕ := ![h.val, 0, 0]
/-- Where the slab of a row block and slot begins. -/
abbrev slabOff (h : Fin 4) (s : Fin 3) : Fin 4 → ℕ := ![h.val, s.val, 0, 0]

/-- The rows of a piece lie in the block. -/
theorem rowOff_inb (d h : Fin 4) : ∀ a, rowOff d h a + S32x512.size a ≤ S512x512.size a := by
  revert d h; decide
/-- A row block's slab lies in its buffer. -/
theorem redOff_inb (h : Fin 4) : ∀ a, redOff h a + S1x32x512.size a ≤ S4x32x512.size a := by
  revert h; decide
/-- The slab of a row block and slot lies in its buffer. -/
theorem slabOff_inb (h : Fin 4) (s : Fin 3) : ∀ a, slabOff h s a + S1x1x32x512.size a ≤ S4x3x32x512.size a := by
  revert h s; decide

/-- The rectangle of the rows of a piece. -/
abbrev rowR (d h : Fin 4) : Rect S512x512 := Rect.unit (s := S512x512) (rowOff d h) S32x512.size (rowOff_inb d h)
/-- The rectangle of a row block's slab. -/
abbrev redR (h : Fin 4) : Rect S4x32x512 := Rect.unit (s := S4x32x512) (redOff h) S1x32x512.size (redOff_inb h)
/-- The rectangle of the slab of a row block and slot. -/
abbrev slabR (h : Fin 4) (s : Fin 3) : Rect S4x3x32x512 :=
  Rect.unit (s := S4x3x32x512) (slabOff h s) S1x1x32x512.size (slabOff_inb h s)

/-- The rows of a piece, as the kernel's copies name them. -/
abbrev xbRows (d h : Fin 4) : Memref sig .tc .vmem S32x512 .bf16 := xbM.slice (rowR d h) (fun _ => rfl)
/-- The reduced rows of a row block. -/
abbrev redSlab (h : Fin 4) : Memref sig .tc .vmem S32x512 .bf16 :=
  (redM.slice (redR h) (fun _ => rfl)).squeeze S32x512 squeezes_S1x32x512_S32x512
/-- The slab on which a scattered piece lands. -/
abbrev rsSlab (h : Fin 4) (s : Fin 3) : Memref sig .tc .vmem S32x512 .bf16 :=
  (rsM.slice (slabR h s) (fun _ => rfl)).squeeze S32x512 squeezes_S1x1x32x512_S32x512
/-- The slab on which a gathered piece lands. -/
abbrev agSlab (h : Fin 4) (s : Fin 3) : Memref sig .tc .vmem S32x512 .bf16 :=
  (agM.slice (slabR h s) (fun _ => rfl)).squeeze S32x512 squeezes_S1x1x32x512_S32x512

/-! ## Which entries a piece has -/

/-- The entries of the rows of a piece are those of its rectangle. -/
theorem xbRows_set (d h : Fin 4) : (xbRows d h).view.set = (rowR d h).set := View.set_slice_whole _ _
/-- The entries of a slab of reduced rows are those of its rectangle. -/
theorem redSlab_set (h : Fin 4) : (redSlab h).view.set = (redR h).set :=
  (View.set_reshape _ _).trans (View.set_slice_whole _ _)
/-- The entries of a scattered piece's slab are those of its rectangle. -/
theorem rsSlab_set (h : Fin 4) (s : Fin 3) : (rsSlab h s).view.set = (slabR h s).set :=
  (View.set_reshape _ _).trans (View.set_slice_whole _ _)
/-- The entries of a gathered piece's slab are those of its rectangle. -/
theorem agSlab_set (h : Fin 4) (s : Fin 3) : (agSlab h s).view.set = (slabR h s).set :=
  (View.set_reshape _ _).trans (View.set_slice_whole _ _)

/-- An entry is in a piece when its row is one of the piece's 32. -/
theorem mem_rowR {d h : Fin 4} {i : S512x512.Idx} :
    i ∈ (rowR d h).set ↔ 128 * d.val + 32 * h.val ≤ (i 0).val ∧ (i 0).val < 128 * d.val + 32 * h.val + 32 := by
  rw [Rect.mem_set_unit]
  refine ⟨fun H => H 0, fun H a => ?_⟩
  match a with
  | ⟨0, _⟩ => exact H
  | ⟨1, _⟩ => exact ⟨Nat.zero_le _, by have := (i 1).isLt; simpa using this⟩

/-- An entry is in a slab of reduced rows when its first coordinate is the row block. -/
theorem mem_redR {h : Fin 4} {i : S4x32x512.Idx} : i ∈ (redR h).set ↔ (i 0).val = h.val := by
  rw [Rect.mem_set_unit]
  refine ⟨fun H => ?_, fun H a => ?_⟩
  · have h0 : h.val ≤ (i 0).val ∧ (i 0).val < h.val + 1 := H 0
    omega
  match a with
  | ⟨0, _⟩ => exact ⟨H.ge, (show (i 0).val < h.val + 1 by omega)⟩
  | ⟨1, _⟩ => exact ⟨Nat.zero_le _, by have := (i 1).isLt; simpa using this⟩
  | ⟨2, _⟩ => exact ⟨Nat.zero_le _, by have := (i 2).isLt; simpa using this⟩

/-- An entry is in a landing slab when its first two coordinates are the row block and the slot. -/
theorem mem_slabR {h : Fin 4} {s : Fin 3} {i : S4x3x32x512.Idx} :
    i ∈ (slabR h s).set ↔ (i 0).val = h.val ∧ (i 1).val = s.val := by
  rw [Rect.mem_set_unit]
  refine ⟨fun H => ?_, fun H a => ?_⟩
  · have h0 : h.val ≤ (i 0).val ∧ (i 0).val < h.val + 1 := H 0
    have h1 : s.val ≤ (i 1).val ∧ (i 1).val < s.val + 1 := H 1
    omega
  match a with
  | ⟨0, _⟩ => exact ⟨H.1.ge, (show (i 0).val < h.val + 1 by omega)⟩
  | ⟨1, _⟩ => exact ⟨H.2.ge, (show (i 1).val < s.val + 1 by omega)⟩
  | ⟨2, _⟩ => exact ⟨Nat.zero_le _, by have := (i 2).isLt; simpa using this⟩
  | ⟨3, _⟩ => exact ⟨Nat.zero_le _, by have := (i 3).isLt; simpa using this⟩

/-! ## The pieces are apart and make up the buffer -/

/-- Different pieces of the block share no entry. -/
theorem rowR_apart {p p' : Fin 4 × Fin 4} (h : p ≠ p') : Disjoint (rowR p.1 p.2).set (rowR p'.1 p'.2).set := by
  rw [Finset.disjoint_left]
  intro i hi hi'
  rw [mem_rowR] at hi hi'
  refine h (Prod.ext (Fin.ext ?_) (Fin.ext ?_)) <;>
  · have := p.2.isLt; have := p'.2.isLt; omega

/-- The pieces make up the block. -/
theorem rowR_all : Finset.univ.biUnion (fun p : Fin 4 × Fin 4 => (rowR p.1 p.2).set) = Finset.univ := by
  ext i
  simp only [Finset.mem_biUnion, Finset.mem_univ, true_and, iff_true]
  have hi : (i 0).val < 512 := (i 0).isLt
  exact ⟨(⟨(i 0).val / 128, by omega⟩, ⟨(i 0).val % 128 / 32, by omega⟩), mem_rowR.mpr (by simp only; omega)⟩

/-- Different slabs of reduced rows share no entry. -/
theorem redR_apart {h h' : Fin 4} (hne : h ≠ h') : Disjoint (redR h).set (redR h').set := by
  rw [Finset.disjoint_left]
  intro i hi hi'
  exact hne (Fin.ext ((mem_redR.mp hi).symm.trans (mem_redR.mp hi')))

/-- The slabs make up the reduced rows. -/
theorem redR_all : Finset.univ.biUnion (fun h : Fin 4 => (redR h).set) = Finset.univ := by
  ext i
  simp only [Finset.mem_biUnion, Finset.mem_univ, true_and, iff_true]
  exact ⟨i 0, mem_redR.mpr rfl⟩

/-- Different landing slabs share no entry. -/
theorem slabR_apart {p p' : Fin 4 × Fin 3} (hne : p ≠ p') : Disjoint (slabR p.1 p.2).set (slabR p'.1 p'.2).set := by
  rw [Finset.disjoint_left]
  intro i hi hi'
  obtain ⟨a, b⟩ := mem_slabR.mp hi
  obtain ⟨a', b'⟩ := mem_slabR.mp hi'
  exact hne (Prod.ext (Fin.ext (a.symm.trans a')) (Fin.ext (b.symm.trans b')))

/-- The landing slabs make up their buffer. -/
theorem slabR_all : Finset.univ.biUnion (fun p : Fin 4 × Fin 3 => (slabR p.1 p.2).set) = Finset.univ := by
  ext i
  simp only [Finset.mem_biUnion, Finset.mem_univ, true_and, iff_true]
  exact ⟨(i 0, i 1), mem_slabR.mpr ⟨rfl, rfl⟩⟩

/-! ## The kernel's row offsets -/

/-- The rows sent with slot `s` are those of the device they go to; -/
theorem off1_eq (c : Dev nD) (s : Fin 3) (h : Fin 4) :
    k0_off1 c (BitVec.ofNat 32 (1 + s.val)) (BitVec.ofNat 32 (32 * h.val))
      = rowOff ⟨(c.val + 1 + s.val) % 4, Nat.mod_lt _ (by decide)⟩ h := by revert c s h; decide +kernel
/-- the rows a device reduces are its own; -/
theorem off2_eq (c : Dev nD) (h : Fin 4) : k0_off2 c (BitVec.ofNat 32 (32 * h.val)) = rowOff c h := by
  revert c h; decide +kernel
/-- the rows gathered in slot `s` are those of the device that fills the slot. -/
theorem off3_eq (c : Dev nD) (s : Fin 3) (h : Fin 4) :
    k0_off3 c (BitVec.ofNat 32 s.val) (BitVec.ofNat 32 (32 * h.val))
      = rowOff ⟨(c.val + s.val + 1) % 4, Nat.mod_lt _ (by decide)⟩ h := by revert c s h; decide +kernel

end Cert.AllReduce

end
-- ==== Proof.Mesh.lean ====
/-
# The mesh: who talks to whom, and on which semaphores

Four devices, each with one barrier semaphore and forty-eight DMA semaphores of the kernel's own: four families
(departure and arrival of the scattered pieces, departure and arrival of the gathered pieces), four row blocks `h`, three
slots `s`. On every device slot `s` is filled by the device `s + 1` places up the ring; so what a device sends with slot
`s` goes to the device `s + 1` places down.

A `Due` names one arrival a device causes in the whole run: one of the three barrier signals, or one copy's end on one of
the DMA semaphores. The file says for each due which device's semaphore it lands on, by how much, and how high that
semaphore stands in the order in which the devices wait; and it proves what the order is for, that a device waiting on a
semaphore owes nothing at or below it.
-/
module

public import proofs.«01_k».proof.Proof.Pieces
public import Idealize.ShloMosaic.Lib.Rounds
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Places on the ring -/

set_option backward.proofsInPublic true in
/-- The device that fills slot `s` of device `c`: `s + 1` places up. -/
def up (s : Fin 3) (c : Dev nD) : Dev nD := ⟨(c.val + s.val + 1) % 4, Nat.mod_lt _ (by decide)⟩
set_option backward.proofsInPublic true in
/-- The device whose slot `s` device `c` fills: `s + 1` places down. -/
def dn (s : Fin 3) (c : Dev nD) : Dev nD := ⟨(c.val + 3 - s.val) % 4, Nat.mod_lt _ (by decide)⟩

/-- Up and then down by a slot leads back. -/
theorem dn_up (s : Fin 3) (c : Dev nD) : dn s (up s c) = c := by revert s c; decide
/-- Down and then up by a slot leads back. -/
theorem up_dn (s : Fin 3) (c : Dev nD) : up s (dn s c) = c := by revert s c; decide
/-- Down by the mirrored slot is up by the slot. -/
theorem dn_rev (s : Fin 3) (c : Dev nD) : dn s.rev c = up s c := by revert s c; decide
/-- Up by a slot leads to another device. -/
theorem up_ne (s : Fin 3) (c : Dev nD) : up s c ≠ c := by revert s c; decide

/-- Going down by a slot, as a permutation of the devices. -/
def down (s : Fin 3) : Dev nD ≃ Dev nD := ⟨dn s, up s, up_dn s, dn_up s⟩

/-- On a device, a piece's place among all: its own rows of a row block, or those of a row block and slot. -/
abbrev Key : Type := Fin 4 ⊕ (Fin 4 × Fin 3)
/-- The rows a place stands for: of the device that fills the slot (as they are gathered), -/
abbrev srcOf (c : Dev nD) : Key → Fin 4 × Fin 4
  | .inl h => (c, h)
  | .inr (h, s) => (up s c, h)
/-- or of the device whose slot is filled (as they are scattered). -/
abbrev dstOf (c : Dev nD) : Key → Fin 4 × Fin 4
  | .inl h => (c, h)
  | .inr (h, s) => (dn s c, h)

/-- Different places stand for different gathered rows. -/
theorem srcOf_injective (c : Dev nD) : Function.Injective (srcOf c) := by revert c; unfold Function.Injective; decide +kernel
/-- All rows are gathered at some place. -/
theorem srcOf_surjective (c : Dev nD) : Function.Surjective (srcOf c) := by revert c; unfold Function.Surjective; decide +kernel
/-- Different places stand for different scattered rows. -/
theorem dstOf_injective (c : Dev nD) : Function.Injective (dstOf c) := by revert c; unfold Function.Injective; decide +kernel
/-- All rows are scattered from some place. -/
theorem dstOf_surjective (c : Dev nD) : Function.Surjective (dstOf c) := by revert c; unfold Function.Surjective; decide +kernel

/-- The kernel's offsets of the rows of a slot. -/
theorem off1_dn (c : Dev nD) (s : Fin 3) (h : Fin 4) :
    k0_off1 c (BitVec.ofNat 32 (1 + s.rev.val)) (BitVec.ofNat 32 (32 * h.val)) = rowOff (dn s c) h :=
  (off1_eq c s.rev h).trans (congrArg (rowOff · h) (by revert c s; decide))
/-- The kernel's offsets of the rows of the device that fills a slot. -/
theorem off3_up (c : Dev nD) (s : Fin 3) (h : Fin 4) :
    k0_off3 c (BitVec.ofNat 32 s.val) (BitVec.ofNat 32 (32 * h.val)) = rowOff (up s c) h := off3_eq c s h

/-! ## Semaphores and dues -/

/-- A semaphore of the kernel's own: family (0 a scattered piece's departure, 1 its arrival, 2 a gathered piece's
    departure, 3 its arrival), row block, slot. -/
abbrev Own : Type := Fin 4 × Fin 4 × Fin 3
/-- One arrival: a barrier signal by its number, or the end of a copy on one of the kernel's own semaphores. -/
abbrev Due : Type := Fin 3 ⊕ Own

/-- The row blocks and slots in the order in which the kernel sends them: slots 1, 2, 0 of each row block. -/
abbrev sendOrd : List (Fin 4 × Fin 3) :=
  [(0, 1), (0, 2), (0, 0), (1, 1), (1, 2), (1, 0), (2, 1), (2, 2), (2, 0), (3, 1), (3, 2), (3, 0)]

set_option backward.proofsInPublic true in
/-- Where an own semaphore lies in the pool: after the pipeline's two. -/
def dsem (f h : Fin 4) (s : Fin 3) : DmaSem sig :=
  ⟨2 + (12 * f.val + (3 * h.val + s.val)), by
    have h1 := f.isLt; have h2 := h.isLt; have h3 := s.isLt
    show 2 + (12 * f.val + (3 * h.val + s.val)) < 50
    omega⟩

/-- The family a pool position stands for. -/
def famOf (q : DmaSem sig) : Fin 4 := ⟨(q.val - 2) / 12 % 4, Nat.mod_lt _ (by decide)⟩
/-- The row block a pool position stands for. -/
def blkOf (q : DmaSem sig) : Fin 4 := ⟨(q.val - 2) % 12 / 3 % 4, Nat.mod_lt _ (by decide)⟩
/-- The slot a pool position stands for. -/
def slotOf (q : DmaSem sig) : Fin 3 := ⟨(q.val - 2) % 3, Nat.mod_lt _ (by decide)⟩

/-- The family is read back from the pool position. -/
theorem famOf_dsem (f h : Fin 4) (s : Fin 3) : famOf (dsem f h s) = f := by revert f h s; decide
/-- The row block is read back from the pool position. -/
theorem blkOf_dsem (f h : Fin 4) (s : Fin 3) : blkOf (dsem f h s) = h := by revert f h s; decide
/-- The slot is read back from the pool position. -/
theorem slotOf_dsem (f h : Fin 4) (s : Fin 3) : slotOf (dsem f h s) = s := by revert f h s; decide
/-- The own semaphores lie after the pipeline's two. -/
theorem two_le_dsem (f h : Fin 4) (s : Fin 3) : 2 ≤ (dsem f h s).val := Nat.le_add_right _ _

/-- The runtime's barrier semaphore. -/
abbrev barS : Sem sig := (SemArray.scalar (sig.barrier 0 rfl) : Sems sig S_).sem

/-- The semaphore of a family, row block and slot. -/
abbrev ownSem (k : Own) : SemLoc sig := .dma (dsem k.1 k.2.1 k.2.2)
/-- The semaphore a due lands on. -/
abbrev semOf : Due → SemLoc sig
  | .inl _ => .reg barS
  | .inr k => ownSem k

/-- A device's barrier cell. -/
abbrev barCell (c : Dev nD) : GSem nD τ sig := ((c : Thread nD τ), .reg barS)
/-- A device's cell of a family, row block and slot. -/
abbrev cell (c : Dev nD) (f h : Fin 4) (s : Fin 3) : GSem nD τ sig := ((c : Thread nD τ), .dma (dsem f h s))

/-- The amount by which one copied piece (32 rows of 512 bf16) raises the semaphores it ends on. -/
abbrev N : ℕ := (agSlab 0 0).view.dmaCredit
/-- The amount of a piece is positive. -/
theorem N_pos : 0 < N := View.dmaCredit_pos _ (by decide)

/-- A due's amount: one unit for a signal. -/
abbrev amt : Due → ℕ
  | .inl _ => 1
  | .inr _ => N
/-- A due's number within its semaphore's round. -/
abbrev numOf : Due → Fin 3
  | .inl d => d
  | .inr _ => 0

/-- Where a due lands: barrier signal `d` on the device `d + 1` places down; a departure at home; an arrival, with slot
    `s`, on the device `s + 1` places down. -/
def tgt : Due → (Dev nD ≃ Dev nD)
  | .inl d => down d
  | .inr (f, _, s) => if f.val % 2 = 1 then down s else Equiv.refl _

/-- A barrier signal lands down by its slot. -/
theorem tgt_inl (d : Fin 3) (c : Dev nD) : tgt (.inl d) c = dn d c := rfl
/-- Departures land at home. -/
theorem tgt_home (h : Fin 4) (s : Fin 3) (c : Dev nD) : tgt (.inr (0, h, s)) c = c ∧ tgt (.inr (2, h, s)) c = c := ⟨rfl, rfl⟩
/-- Arrivals land down by their slot. -/
theorem tgt_away (h : Fin 4) (s : Fin 3) (c : Dev nD) :
    tgt (.inr (1, h, s)) c = dn s c ∧ tgt (.inr (3, h, s)) c = dn s c := ⟨rfl, rfl⟩

/-- The cell a due of device `c` lands on. -/
abbrev dueCell (c : Dev nD) (x : Due) : GSem nD τ sig := ((tgt x c : Thread nD τ), semOf x)

/-- Every due has a positive amount. -/
theorem amt_pos (x : Due) : 0 < amt x := match x with
  | .inl _ => Nat.one_pos
  | .inr _ => N_pos

/-! ## The order of waiting -/

/-- How high a semaphore stands: departures and the pipeline's own lowest, then the barrier, then the scattered pieces'
    arrivals, then the gathered pieces' arrivals. -/
def rank : SemLoc sig → ℕ
  | .reg _ => 1
  | .dma q => if q.val < 2 then 0 else if famOf q = 1 then 2 else if famOf q = 3 then 3 else 0

/-- The cells that take part in the order of waiting: those of the devices' cores. -/
def L (g : GSem nD τ sig) : Finset Unit := if g.1.2 = .tc then {()} else ∅
/-- The level of a cell: how high its semaphore stands. -/
def lv (g : GSem nD τ sig) (_ : Unit) : ℕ := rank g.2

/-- No other thread's cells take part in the order of waiting. -/
theorem L_of_ne (g : GSem nD τ sig) (h : g.1.2 ≠ .tc) : L g = ∅ := if_neg h
/-- All cells of a device's core take part in it. -/
theorem mem_L (c : Dev nD) (sm : SemLoc sig) (u : Unit) : u ∈ L ((c : Thread nD τ), sm) := by
  unfold L; rw [if_pos rfl]; exact Finset.mem_singleton_self _

/-- What device `c` owes for a list of dues, the first to be paid the last summand. -/
def debt (c : Dev nD) : List Due → CellTallies nD τ sig Unit
  | [] => 0
  | x :: l => debt c l + tallyAt (dueCell c x) () (amt x)

/-- The arrival of a scattered piece. -/
abbrev scatterDue (p : Fin 4 × Fin 3) : Due := .inr (1, p.1, p.2)
/-- The arrival of a gathered piece. -/
abbrev gatherDue (p : Fin 4 × Fin 3) : Due := .inr (3, p.1, p.2)
/-- The arrivals of the scattered pieces, in the order of sending. -/
abbrev scattered : List Due := sendOrd.map scatterDue
/-- The arrivals of the gathered pieces, in the order of sending. -/
abbrev gathered : List Due := sendOrd.map gatherDue
/-- The dues of the kernel's run, first to last: the three signals, the scattered pieces, the gathered pieces. -/
abbrev payOrd : List Due := [.inl 2, .inl 1, .inl 0] ++ (scattered ++ gathered)

/-- An entry of the debt is the sum of the amounts of the dues on that cell. -/
theorem debt_apply (c : Dev nD) (l : List Due) (g : GSem nD τ sig) :
    debt c l g () = (l.map fun x => if g = dueCell c x then amt x else 0).sum := by
  induction l with
  | nil => rfl
  | cons x l ih =>
    rw [debt, Pi.add_apply, Finsupp.add_apply, ih, List.map_cons, List.sum_cons, Nat.add_comm, tallyAt_apply]
    congr 1
    by_cases h : g = dueCell c x
    · rw [if_pos ⟨h, rfl⟩, if_pos h]
    · rw [if_neg fun h' => h h'.1, if_neg h]

/-- Where a debt is positive there is a due. -/
theorem debt_pos {c : Dev nD} {l : List Due} {g : GSem nD τ sig} {u : Unit} (h : 0 < debt c l g u) :
    ∃ x ∈ l, g = dueCell c x := by
  cases u
  rw [debt_apply] at h
  by_contra hn
  have hz : (l.map fun x => if g = dueCell c x then amt x else 0).sum = 0 :=
    List.sum_eq_zero fun n hn' => by
      obtain ⟨x, hx, rfl⟩ := List.mem_map.mp hn'
      exact if_neg fun hg => hn ⟨x, hx, hg⟩
  omega

variable {F : FTy → Type} [FloatOps F]

/-- The resources of the protocol's rounds, whose duties are numbered 0, 1, 2. -/
abbrev UB : Type := URounds (GSem nD τ sig) (Fin 3)
/-- The pipeline's resources beside the protocol's. -/
abbrev UU : Type := UR sig nD τ × UB

local notation "𝕄" => MT nD τ sig Unit (Elt F) ℕ UU ℕ

/-- Where the pipeline's resources lie. -/
abbrev EP : Emb (UR sig nD τ) (MT nD τ sig Unit (Elt F) ℕ UU ℕ) := embL
/-- Where the protocol's resources lie. -/
abbrev ER : Emb UB (MT nD τ sig Unit (Elt F) ℕ UU ℕ) := embR

omit [FloatOps F] in
/-- A device that owes only dues above a semaphore may wait on it. -/
theorem mayWait_below (c : Dev nD) (sm : SemLoc sig) (l : List Due) (hl : ∀ x ∈ l, rank sm < rank (semOf x)) :
    (levAts L lv : sProp 𝕄) ⊢ MayWait (c : Thread nD τ) sm () (debt c l) :=
  MayOwe.of_cut (L := L) (lev := lv) (rank sm)
    (fun p hp => by rw [Finset.mem_singleton.mp hp]; exact mem_L c sm _)
    (fun g u hg => by obtain ⟨x, _, rfl⟩ := debt_pos hg; exact mem_L _ _ _)
    (fun p hp => by rw [Finset.mem_singleton.mp hp]; exact le_refl _)
    (fun g u hg => by obtain ⟨x, hx, rfl⟩ := debt_pos hg; exact hl x hx)

end Cert.AllReduce

end
-- ==== Proof.Sched.lean ====
/-
# What every arrival hands over

The contents: device `c` starts from its block of `x`; the rows of device `d` and row block `h` in it are a PIECE of 32
rows. For its own rows of row block `h` a device adds up, in f32 and in a fixed order, its own piece and the three that
landed; it rounds the sum to bf16 and passes it on.

The schedule: each semaphore has one round. A barrier signal from a device lets the receiver write that device's landing
slabs of one slot. The departure of a copy gives the sender its piece back; the arrival of one gives the receiver its slab
holding the piece that was sent.
-/
module

public import proofs.«01_k».proof.Proof.Mesh
public import Idealize.ShloMosaic.Lib.Ring.Trips

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- Device `c`'s block of `x`, as the launch stages it. -/
def xin (c : Dev nD) : Vec F S512x512 .bf16 :=
  (win0_0.blk (0 : Fin 1)).view.read (Elt F) (m ((c : Thread nD τ).loc main_arg0))

/-- In device `c`'s block, the piece of device `d` and row block `h`. -/
def piece (c : Dev nD) (d h : Fin 4) : Vec F S32x512 .bf16 := (xbRows d h).view.read (Elt F) (xin m c)

/-- Four pieces added in f32, first to last. -/
def sum4 (v₀ v₁ v₂ v₃ : Vec F S32x512 .bf16) : FVec F S32x512 .f32 :=
  addf (addf (addf (extf .f32 v₀ bitsLt_bf16_f32) (extf .f32 v₁ bitsLt_bf16_f32)) (extf .f32 v₂ bitsLt_bf16_f32))
    (extf .f32 v₃ bitsLt_bf16_f32)

/-- Device `c`'s reduced rows of row block `h`: its own piece, then those of slots 2, 0, 1; -/
def red (c : Dev nD) (h : Fin 4) : FVec F S32x512 .f32 :=
  sum4 (piece m c c h) (piece m (up 2 c) c h) (piece m (up 0 c) c h) (piece m (up 1 c) c h)
/-- and those rows rounded to bf16, as they are passed on. -/
def redBf (c : Dev nD) (h : Fin 4) : FVec F S32x512 .bf16 := truncf .bf16 (red m c h) bitsLt_bf16_f32

/-! ## Holding a piece -/

/-- On device `c` the 32 rows `M` held at share `q`, with contents `v`. -/
def hold (c : Dev nD) (M : Memref sig .tc .vmem S32x512 .bf16) (q : PosShare TreeShare) (v : Vec F S32x512 .bf16) : sProp 𝕄 :=
  iprop(∃ f : Buf (Elt F) (M.view.loc (c : Thread nD τ)), ⌜M.view.read (Elt F) f = v⌝
    ∗ (M.view.loc (c : Thread nD τ) ↦[M.view.set]{q} f))

/-- Held whole, with whatever contents. -/
def holdAny (c : Dev nD) (M : Memref sig .tc .vmem S32x512 .bf16) : sProp 𝕄 := iprop(∃ v, hold c M fullShare v)

omit [FloatOps F] in
/-- A held piece can be handed over by a cell. -/
instance hold_storable (c : Dev nD) (M q) (v : Vec F S32x512 .bf16) : BI.Storable (upEmb : UEmb _ 𝕄) (hold c M q v) := by
  unfold hold; infer_instance
omit [FloatOps F] in
/-- So can one with whatever contents. -/
instance holdAny_storable (c : Dev nD) (M) : BI.Storable (upEmb : UEmb _ 𝕄) (holdAny (F := F) c M) := by
  unfold holdAny; infer_instance

/-! ## The schedule -/

/-- What barrier signal `d` hands device `c`: the landing slabs, of the device `d + 1` places up, that `c` fills. -/
def barPay (c : Dev nD) (d : Fin 3) : sProp 𝕄 :=
  bigSep Finset.univ fun h : Fin 4 => iprop(holdAny (up d c) (rsSlab h d.rev) ∗ holdAny (up d c) (agSlab h d.rev))

/-- What the end of a copy on device `c`'s own semaphore hands it, family by family: the scattered piece back; the piece
    that landed; a third of the hold on the reduced rows back; the reduced rows that landed. -/
def ownPay (c : Dev nD) (f h : Fin 4) (s : Fin 3) : sProp 𝕄 :=
  if f = 0 then hold c (xbRows (dn s c) h) fullShare (piece m c (dn s c) h)
  else if f = 1 then hold c (rsSlab h s) fullShare (piece m (up s c) c h)
  else if f = 2 then hold c (redSlab h) (Ring.shares3 fullShare s) (redBf m c h)
  else hold c (agSlab h s) fullShare (redBf m (up s c) h)

/-- The end of a scattered piece's departure hands the piece back. -/
theorem ownPay_0 (c : Dev nD) (h : Fin 4) (s : Fin 3) :
    ownPay m c 0 h s = hold c (xbRows (dn s c) h) fullShare (piece m c (dn s c) h) := rfl
/-- Its arrival hands over the piece that landed. -/
theorem ownPay_1 (c : Dev nD) (h : Fin 4) (s : Fin 3) :
    ownPay m c 1 h s = hold c (rsSlab h s) fullShare (piece m (up s c) c h) := rfl
/-- The end of a gathered piece's departure hands back a third of the hold on the reduced rows. -/
theorem ownPay_2 (c : Dev nD) (h : Fin 4) (s : Fin 3) :
    ownPay m c 2 h s = hold c (redSlab h) (Ring.shares3 fullShare s) (redBf m c h) := rfl
/-- Its arrival hands over the reduced rows that landed. -/
theorem ownPay_3 (c : Dev nD) (h : Fin 4) (s : Fin 3) :
    ownPay m c 3 h s = hold c (agSlab h s) fullShare (redBf m (up s c) h) := rfl

/-- The schedule of the rounds: in round 0 a barrier cell has three duties of one unit each, an own cell one of a piece's
    amount; there is no later round. -/
def Rd : Rounds.Schedule (GSem nD τ sig) (Fin 3) 𝕄 where
  duties g r :=
    if r = 0 ∧ g.1.2 = .tc then
      match g.2 with
      | .reg _ => Finset.univ
      | .dma q => if q.val < 2 then ∅ else {0}
    else ∅
  unitless _ := False
  amount g _ _ := match g.2 with
    | .reg _ => 1
    | .dma _ => N
  payload g _ d := match g.2 with
    | .reg _ => barPay g.1.1 d
    | .dma q => ownPay m g.1.1 (famOf q) (blkOf q) (slotOf q)
  amount_pos g _ _ _ := by
    rcases g with ⟨t, _ | _⟩
    · exact Nat.one_pos
    · exact N_pos

/-- All that the schedule hands over can be kept in a cell. -/
instance Rd_storable (g : GSem nD τ sig) (r : ℕ) (d : Fin 3) :
    BI.Storable (upEmb : UEmb _ 𝕄) ((Rd (F := F) m).payload g r d) := by
  rcases g with ⟨t, _ | q⟩
  · show BI.Storable upEmb (barPay (F := F) t.1 d)
    unfold barPay; infer_instance
  · show BI.Storable upEmb (ownPay m t.1 (famOf q) (blkOf q) (slotOf q))
    unfold ownPay; (repeat' split) <;> infer_instance

/-! ## Reading the schedule off at a cell -/

/-- A barrier cell has three duties. -/
theorem duties_bar (c : Dev nD) : (Rd (F := F) m).duties (barCell c) 0 = Finset.univ := by
  dsimp only [Rd]; exact if_pos ⟨rfl, rfl⟩
/-- An own cell has one duty. -/
theorem duties_own (c : Dev nD) (f h : Fin 4) (s : Fin 3) : (Rd (F := F) m).duties (cell c f h s) 0 = {0} := by
  dsimp only [Rd]; rw [if_pos ⟨rfl, rfl⟩]; exact if_neg (Nat.not_lt.mpr (two_le_dsem f h s))
/-- No cell has a duty after round 0. -/
theorem duties_later (g : GSem nD τ sig) : ∀ r, 1 ≤ r → (Rd (F := F) m).duties g r = ∅ :=
  fun r hr => by dsimp only [Rd]; exact if_neg fun h => by omega

/-- A due's amount is the one in the schedule. -/
theorem amount_due (c : Dev nD) (x : Due) : (Rd (F := F) m).amount (dueCell c x) 0 (numOf x) = amt x := by
  cases x <;> rfl

/-- A barrier cell expects three units. -/
theorem expect_bar (c : Dev nD) : (Rd (F := F) m).expect (barCell c) 0 = 3 := by
  unfold Schedule.expect Schedule.amountOf
  rw [duties_bar]
  exact (Finset.sum_congr rfl fun d _ => amount_due m (up d c) (.inl d)).trans (by simp)
/-- An own cell expects the amount of a piece. -/
theorem expect_own (c : Dev nD) (f h : Fin 4) (s : Fin 3) : (Rd (F := F) m).expect (cell c f h s) 0 = N := by
  unfold Schedule.expect Schedule.amountOf
  rw [duties_own, Finset.sum_singleton]; rfl

/-- What a duty of a barrier cell hands over. -/
theorem payload_bar (c : Dev nD) (d : Fin 3) : (Rd (F := F) m).payload (barCell c) 0 d = barPay c d := rfl
/-- What the duty of an own cell hands over. -/
theorem payload_own (c : Dev nD) (f h : Fin 4) (s : Fin 3) (d : Fin 3) :
    (Rd (F := F) m).payload (cell c f h s) 0 d = ownPay m c f h s := by
  show ownPay m c (famOf (dsem f h s)) (blkOf (dsem f h s)) (slotOf (dsem f h s)) = _
  rw [famOf_dsem, blkOf_dsem, slotOf_dsem]

/-- All that a barrier cell's round hands over. -/
theorem rest_bar (c : Dev nD) :
    bigSep ((Rd (F := F) m).duties (barCell c) 0 \ ∅) (fun d => (Rd (F := F) m).payload (barCell c) 0 d)
      = bigSep Finset.univ (barPay (F := F) c) := by
  rw [Finset.sdiff_empty, duties_bar]; rfl
/-- All that an own cell's round hands over. -/
theorem rest_own (c : Dev nD) (f h : Fin 4) (s : Fin 3) :
    bigSep ((Rd (F := F) m).duties (cell c f h s) 0 \ ∅) (fun d => (Rd (F := F) m).payload (cell c f h s) 0 d)
      = ownPay m c f h s := by
  rw [Finset.sdiff_empty, duties_own, bigSep_singleton, payload_own]

end Cert.AllReduce

end
-- ==== Proof.Steps.lean ====
/-
# One operation at a time

What each kind of operation of the kernel does to what a device holds: a barrier signal, the barrier wait, a copy to
another device, the wait for a copy's end, and the loads and stores of pieces. Each is stated once, for every device, row
block and slot.

A device always holds the records (every cell's invariant, that round 0 is reached everywhere, and the order of waiting),
which last for the whole run, and what it still owes.
-/
module

public import proofs.«01_k».proof.Proof.Sched

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No variant is counted. -/
abbrev 𝒱₀ : Variants := Variants.none

/-! ## The records -/

/-- A device's cells: the barrier's, and one for each own semaphore. -/
abbrev Cid : Type := Unit ⊕ Own
/-- The semaphore of a device's cell. -/
abbrev cidSem : Cid → SemLoc sig
  | .inl _ => .reg barS
  | .inr k => ownSem k
/-- A device's cell among all semaphores of the mesh. -/
abbrev kcell (p : Dev nD × Cid) : GSem nD τ sig := ((p.1 : Thread nD τ), cidSem p.2)
/-- The cell, among a device's, a due lands on. -/
abbrev cidOf : Due → Cid
  | .inl _ => .inl ()
  | .inr k => .inr k

/-- Every cell's invariant, under the names `K`; every cell in round 0; the order of waiting. -/
def records (K : Dev nD × Cid → ℕ) : sProp 𝕄 :=
  iprop((bigSep Finset.univ fun p : Dev nD × Cid => cellInv ER (Rd m) (K p) (kcell p))
    ∗ (bigSep Finset.univ fun p : Dev nD × Cid => reached ER (kcell p) 0) ∗ levAts L lv)

/-- The records may be used any number of times. -/
instance records_persistent (K : Dev nD × Cid → ℕ) : BI.Persistent (records m K) := by unfold records; infer_instance

variable (K : Dev nD × Cid → ℕ)

/-- The records hold every cell's invariant. -/
theorem records_inv (c : Dev nD) (i : Cid) : records m K ⊢ cellInv ER (Rd m) (K (c, i)) (kcell (c, i)) := by
  have h : (bigSep Finset.univ fun p : Dev nD × Cid => (cellInv ER (Rd m) (K p) (kcell p) : sProp 𝕄)) ⊢ cellInv ER (Rd m) (K (c, i)) (kcell (c, i)) :=
    bigSep_elim (Finset.mem_univ (c, i))
  unfold records
  iintro ⟨H, -, -⟩
  iapply h; iexact H
/-- The records say every cell has reached round 0. -/
theorem records_reached (c : Dev nD) (i : Cid) : records m K ⊢ reached ER (kcell (c, i)) 0 := by
  have h : (bigSep Finset.univ fun p : Dev nD × Cid => (reached ER (kcell p) 0 : sProp 𝕄)) ⊢ reached ER (kcell (c, i)) 0 :=
    bigSep_elim (Finset.mem_univ (c, i))
  unfold records
  iintro ⟨-, H, -⟩
  iapply h; iexact H
/-- The records hold the order of waiting. -/
theorem records_levels : records m K ⊢ levAts L lv := by
  unfold records
  iintro ⟨-, -, H⟩; iexact H

/-- What device `c` still owes: the dues `l`, whatever it has waited on so far. -/
def owing (c : Dev nD) (l : List Due) : sProp 𝕄 := iprop(∃ W, owes (c : Thread nD τ) (debt c l) W)

/-! ## The barrier -/

/-- Signal `d`: the landing slabs of the mirrored slot go to the device `d + 1` places down. -/
theorem signal_step (c n : Dev nD) (d : Fin 3) (hn : n = dn d c) (l : List Due) {k' : ℕ} (hk : k' = 1)
    {α : Type} {Q : α → sProp 𝕄} {k : PUnit → Prog (TpuEff nD τ sig (Elt F) Λ₀ .tc) α} :
    iprop(records m K ∗ owing c (.inl d :: l) ∗ dutyTok ER (dueCell c (.inl d)) 0 d
        ∗ bigSep Finset.univ fun h : Fin 4 => iprop(holdAny c (rsSlab h d.rev) ∗ holdAny c (agSlab h d.rev)))
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold owing
  iintro ⟨#HR, ⟨%W, HO⟩, Ht, Hp⟩ Hk
  iapply (Rounds.wp_signal 𝒱₀ ER (Rd m) (c : Thread nD τ) none (dst := (dn d c : Thread nD τ)) (κ := K (dn d c, .inl ()))
      (d := d) (by rw [duties_bar]; exact Finset.mem_univ _) rfl () (debt c l) rfl) $$ [HO Ht Hp]
  · isplitr; · iapply (records_inv m K (dn d c) (.inl ())); iexact HR
    isplitl [HO]; · iexact HO
    isplitl [Ht]; · iexact Ht
    isplitl [Hp]
    · rw [payload_bar]; unfold barPay; rw [up_dn]; iexact Hp
    iapply (records_reached m K (dn d c) (.inl ())); iexact HR
  iintro HO
  iapply Hk
  iexists W; iexact HO

/-- The barrier wait: with all three signals in, the landing slabs this device fills on the others are its to write, and
    the barrier's counter is at zero for good. -/
theorem barrier_step (c : Dev nD) (l : List Due) (hl : ∀ x ∈ l, 1 < rank (semOf x)) {k' : ℕ} (hk : k' = 3)
    {α : Type} {Q : α → sProp 𝕄} {k : PUnit → Prog (TpuEff nD τ sig (Elt F) Λ₀ .tc) α} :
    iprop(records m K ∗ owing c l ∗ cred (tallyAt (barCell c) () 3) ∗ atPos ER (barCell c) 0 ∅ 0)
      ⊢ iprop(((owing c l ∗ semVal (barCell c) 0 ∗ bigSep Finset.univ (barPay (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold owing
  iintro ⟨#HR, ⟨%W, HO⟩, Hc, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := debt c l) (W := W) (R := 0) (m := 0) (T := ∅)
      (by rw [expect_bar])) $$ [Hc HO Hat]
  · isplitr; · iapply (records_inv m K c (.inl ())); iexact HR
    isplitl [Hc]; · iexact Hc
    isplitl [HO]; · iexact HO
    isplitr
    · iapply (mayWait_below c (.reg barS) l hl); iapply (records_levels m K); iexact HR
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (records_inv m K c (.inl ())); iexact HR
    iexact Hat
  iapply Hk
  isplitl [HO]; · iexists _; iexact HO
  isplitl [Hz] <;> iassumption

/-! ## The copies -/

/-- What device `c` needs to wait for the end of a copy on its own semaphore. -/
def pend (c : Dev nD) (f h : Fin 4) (s : Fin 3) : sProp 𝕄 :=
  iprop(cred (tallyAt (cell c f h s) () N) ∗ atPos ER (cell c f h s) 0 ∅ 0)

/-- The wait for a copy's end: what the end hands over, and the counter at zero for good. -/
theorem wait_step (c : Dev nD) (f h : Fin 4) (s : Fin 3) {sem : DmaSem sig} (hsem : sem = dsem f h s) (l : List Due)
    (hl : ∀ x ∈ l, rank (ownSem (f, h, s)) < rank (semOf x))
    {sp sp' : Space} {s₁ s₂ : Shape} {e₁ e₂ : EltTy} {κ' : Kind}
    {src : Memref sig .tc sp' s₁ e₁} {dst : Memref sig κ' sp s₂ e₂} {hsrc : src.view.WordExact} {hdst : dst.view.WordExact}
    (hN : dst.view.dmaCredit = N)
    {α : Type} {Q : α → sProp 𝕄} {k : PUnit → Prog (TpuEff nD τ sig (Elt F) Λ₀ .tc) α} :
    iprop(records m K ∗ owing c l ∗ pend c f h s)
      ⊢ iprop(((owing c l ∗ semVal (cell c f h s) 0 ∗ ownPay m c f h s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold owing pend
  iintro ⟨#HR, ⟨%W, HO⟩, Hc, Hat⟩ Hk
  iapply (Rounds.wp_wait_rest_token 𝒱₀ ER (Rd m) (c : Thread nD τ) none (κ := K (c, .inr (f, h, s)))
      (wpE_waitDma2_eq 𝒱₀ (c : Thread nD τ) none Set.univ) (Set.mem_univ _) () (O := debt c l) (W := W) (R := 0) (m := 0) (T := ∅)
      (by rw [expect_own, Nat.zero_add, hN])) $$ [Hc HO Hat]
  · isplitr; · iapply (records_inv m K c (.inr (f, h, s))); iexact HR
    isplitl [Hc]; · rw [hN]; iexact Hc
    isplitl [HO]; · iexact HO
    isplitr
    · iapply (mayWait_below c (ownSem (f, h, s)) l hl); iapply (records_levels m K); iexact HR
    iexact Hat
  iintro ⟨HO, Hat, -, Hpay⟩
  ihave Hp := (Entails.of_eq (rest_own m c f h s)) $$ Hpay
  imod (Rounds.cell_close ER (Rd m) (Set.mem_univ (K (c, .inr (f, h, s)))) (fun h => h) (R := 0 + 1) (duties_later m (cell c f h s))) $$ [Hat] with Hz
  · isplitr; · iapply (records_inv m K c (.inr (f, h, s))); iexact HR
    iexact Hat
  iapply Hk
  isplitl [HO]; · iexists _; iexact HO
  isplitl [Hz] <;> iassumption

/-- What device `c` needs to copy with a slot: the slab it fills, at the device that far down, the two duties the copy
    pays, its departure at home (family `f₁`) and its arrival there (family `f₂`), and the place it will wait at. -/
def ready (c : Dev nD) (f₁ f₂ h : Fin 4) (s : Fin 3) (M : Memref sig .tc .vmem S32x512 .bf16) : sProp 𝕄 :=
  iprop(holdAny (dn s c) M ∗ dutyTok ER (cell c f₁ h s) 0 0 ∗ dutyTok ER (cell (dn s c) f₂ h s) 0 0
    ∗ atPos ER (cell c f₁ h s) 0 ∅ 0)

/-- A copy: it takes the hold on the piece it reads and pays the arrival it owed; the device can then wait for the copy's
    departure. -/
theorem copy_step (c n : Dev nD) (f₁ f₂ h : Fin 4) (s : Fin 3) (hn : n = dn s c) {sS sR : DmaSem sig}
    (hS : sS = dsem f₁ h s) (hR : sR = dsem f₂ h s) (l : List Due) (hd : debt c (.inr (f₂, h, s) :: l) = debt c l + tallyAt (cell (dn s c) f₂ h s) () N)
    {src dst M : Memref sig .tc .vmem S32x512 .bf16} (hM : dst = M) (hN : dst.view.amount (.dma sR) = N)
    {hsc : dst.view.ref.isScScratch = false} {hsrc : src.view.WordExact} {hdst : dst.view.WordExact}
    {hsem : DmaTarget.Typed .vmem (.dma sR) (.remote (Dev.tc n : Thread nD τ) dst (.dma sS) hsc)}
    {q : PosShare TreeShare} {v : Vec F S32x512 .bf16}
    (h₁ : ownPay m c f₁ h s = hold c src q v) (h₂ : ownPay m (dn s c) f₂ h s = hold (dn s c) dst fullShare v)
    {α : Type} {Q : α → sProp 𝕄} {k : PUnit → Prog (TpuEff nD τ sig (Elt F) Λ₀ .tc) α} :
    iprop(records m K ∗ owing c (.inr (f₂, h, s) :: l) ∗ hold c src q v ∗ ready c f₁ f₂ h s M)
      ⊢ iprop(((owing c l ∗ pend c f₁ h s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR hM
  unfold owing ready holdAny pend
  iintro ⟨#HR, ⟨%W, HO⟩, Hs, ⟨%w, Hd⟩, Ht₁, Ht₂, Hat⟩ Hk
  ihave Hs' := (Entails.of_eq (show hold c src q v = iprop(∃ f : Buf (Elt F) (src.view.loc (c : Thread nD τ)),
    ⌜src.view.read (Elt F) f = v⌝ ∗ (src.view.loc (c : Thread nD τ) ↦[src.view.set]{q} f)) from rfl)) $$ Hs
  ihave Hd' := (Entails.of_eq (show hold (dn s c) dst fullShare w = iprop(∃ f : Buf (Elt F) (dst.view.loc (dn s c : Thread nD τ)),
    ⌜dst.view.read (Elt F) f = w⌝ ∗ (dst.view.loc (dn s c : Thread nD τ) ↦[dst.view.set]{fullShare} f)) from rfl)) $$ Hd
  icases Hs' with ⟨%fs, %hfs, Hs⟩
  icases Hd' with ⟨%fd, -, Hd⟩
  iapply (Rounds.wp_send_pointsTo 𝒱₀ ER (Rd m) (c : Thread nD τ) none (κ₁ := K (c, .inr (f₁, h, s))) (κ₂ := K (dn s c, .inr (f₂, h, s)))
      (r₁ := 0) (r₂ := 0) (d₁ := 0) (d₂ := 0) (fd := fd)
      (by rw [duties_own]; exact Finset.mem_singleton_self _) (by rw [duties_own]; exact Finset.mem_singleton_self _)
      () () N hN rfl rfl (debt c l) hd (W := W)
      (by rw [payload_own, h₁]; unfold hold; iintro H; iexists fs; isplitr; · (ipureintro; exact hfs)
          iexact H)
      (by rw [payload_own, h₂]; unfold hold; iintro H; iexists (dst.view.write (Elt F) fd (src.view.read (Elt F) fs) Finset.univ); isplitr
          · ipureintro; exact (View.read_write_univ _ _).trans hfs
          iexact H)) $$ [HO Hs Hd Ht₁ Ht₂]
  · isplitr; · iapply (records_inv m K c (.inr (f₁, h, s))); iexact HR
    isplitr; · iapply (records_inv m K (dn s c) (.inr (f₂, h, s))); iexact HR
    isplitl [Hs]; · iexact Hs
    isplitl [Hd]; · iexact Hd
    isplitl [HO]; · iexact HO
    isplitl [Ht₁]; · iexact Ht₁
    isplitr; · iapply (records_reached m K c (.inr (f₁, h, s))); iexact HR
    isplitl [Ht₂]; · iexact Ht₂
    iapply (records_reached m K (dn s c) (.inr (f₂, h, s))); iexact HR
  iintro ⟨Hc, HO⟩
  iapply Hk
  isplitl [HO]; · iexists W; iexact HO
  isplitl [Hc] <;> iassumption

end Cert.AllReduce

end
-- ==== Proof.Rows.lean ====
/-
# Loads and stores of pieces

What a load of a piece reads and what a store of one leaves, for the argument's staged block, the landing slabs, the
reduced rows and the result.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The staged block -/

/-- Device `c`'s staged block of `x`. -/
def inHeld (c : Dev nD) : sProp 𝕄 := iprop(inM.view.loc (c : Thread nD τ) ↦{fullShare} xin m c)

/-- Loading 32 rows of the staged block reads that piece. -/
theorem in_load (c : Dev nD) (d h : Fin 4) {off : Fin 2 → ℕ} (hoff : off = rowOff d h)
    {inb : ∀ a, off a + S32x512.size a ≤ S512x512.size a}
    {hl : inM.view.LoadsAt (Rect.unit (s := S512x512) off S32x512.size inb).toLoadRect}
    {α : Type} {Q : α → sProp 𝕄} {k : Vec F S32x512 .bf16 → Prog (TpuEff nD τ sig (Elt F) Λ₀ .tc) α} :
    inHeld m c
      ⊢ iprop((inHeld m c -∗ wp frame (wpE (defs₀ (F := F)) 𝒱₀ (c : Thread nD τ) none) Set.univ (k (piece m c d h)) Q)
          -∗ wp frame (wpE (defs₀ (F := F)) 𝒱₀ (c : Thread nD τ) none) Set.univ
              (.op (.load inM (Rect.unit (s := S512x512) off S32x512.size inb).toLoadRect hl) k) Q) := by
  subst hoff
  unfold inHeld
  exact wp_load 𝒱₀ (c : Thread nD τ) none Set.univ (m := inM)
    (r := (rowR d h).toLoadRect) (S := Finset.univ) (Finset.subset_univ _)

/-! ## The landing slabs -/

/-- Loading a slab reads what it holds, with two axes of one entry in front. -/
theorem slab_load (c : Dev nD) (M : Memref sig .tc .vmem S4x3x32x512 .bf16) (h : Fin 4) (s : Fin 3) {off : Fin 4 → ℕ}
    (hoff : off = slabOff h s) {q : PosShare TreeShare} {v : Vec F S32x512 .bf16}
    {inb : ∀ a, off a + S1x1x32x512.size a ≤ S4x3x32x512.size a}
    {hl : M.view.LoadsAt (Rect.unit (s := S4x3x32x512) off S1x1x32x512.size inb).toLoadRect}
    {α : Type} {Q : α → sProp 𝕄} {k : Vec F S1x1x32x512 .bf16 → Prog (TpuEff nD τ sig (Elt F) Λ₀ .tc) α} :
    hold c ((M.slice (slabR h s) (fun _ => rfl)).squeeze S32x512 squeezes_S1x1x32x512_S32x512) q v
      ⊢ iprop((∀ w : Vec F S1x1x32x512 .bf16, ⌜shapeCast S32x512 w shapeCasts_S1x1x32x512_S32x512 = v⌝
            -∗ hold c ((M.slice (slabR h s) (fun _ => rfl)).squeeze S32x512 squeezes_S1x1x32x512_S32x512) q v
            -∗ wp frame (wpE (defs₀ (F := F)) 𝒱₀ (c : Thread nD τ) none) Set.univ (k w) Q)
          -∗ wp frame (wpE (defs₀ (F := F)) 𝒱₀ (c : Thread nD τ) none) Set.univ
              (.op (.load M (Rect.unit (s := S4x3x32x512) off S1x1x32x512.size inb).toLoadRect hl) k) Q) := by
  subst hoff
  unfold hold
  iintro ⟨%f, %hf, H⟩ Hk
  iapply (wp_load 𝒱₀ (c : Thread nD τ) none Set.univ (m := M) (r := (slabR h s).toLoadRect)
    (S := ((M.slice (slabR h s) (fun _ => rfl)).squeeze S32x512 squeezes_S1x1x32x512_S32x512).view.set)
    (((View.set_reshape _ _).trans (View.set_slice _ _)).ge)) $$ H
  iintro H
  iapply Hk $$ [] [H]
  · ipureintro; exact hf
  iexists f
  isplitr; · ipureintro; exact hf
  iexact H

/-! ## The reduced rows -/

/-- Loading a row block's slab of the reduced rows; what it reads plays no part. -/
theorem red_load (c : Dev nD) (h : Fin 4) {off : Fin 3 → ℕ} (hoff : off = redOff h)
    {inb : ∀ a, off a + S1x32x512.size a ≤ S4x32x512.size a}
    {hl : redM.view.LoadsAt (Rect.unit (s := S4x32x512) off S1x32x512.size inb).toLoadRect}
    {α : Type} {Q : α → sProp 𝕄} {k : Vec F S1x32x512 .bf16 → Prog (TpuEff nD τ sig (Elt F) Λ₀ .tc) α} :
    holdAny c (redSlab h)
      ⊢ iprop((∀ w : Vec F S1x32x512 .bf16, holdAny c (redSlab h)
            -∗ wp frame (wpE (defs₀ (F := F)) 𝒱₀ (c : Thread nD τ) none) Set.univ (k w) Q)
          -∗ wp frame (wpE (defs₀ (F := F)) 𝒱₀ (c : Thread nD τ) none) Set.univ
              (.op (.load redM (Rect.unit (s := S4x32x512) off S1x32x512.size inb).toLoadRect hl) k) Q) := by
  subst hoff
  unfold holdAny hold
  iintro ⟨%v, %f, %hf, H⟩ Hk
  iapply (wp_load 𝒱₀ (c : Thread nD τ) none Set.univ (m := redM) (r := (redR h).toLoadRect)
    (S := (redSlab h).view.set) (((View.set_reshape _ _).trans (View.set_slice _ _)).ge)) $$ H
  iintro H
  iapply Hk $$ [H]
  iexists v, f
  isplitr; · ipureintro; exact hf
  iexact H

/-- Storing a row block's slab of the reduced rows leaves the stored rows there. -/
theorem red_store (c : Dev nD) (h : Fin 4) {off : Fin 3 → ℕ} (hoff : off = redOff h) {v : Vec F S32x512 .bf16}
    {w : Vec F S1x32x512 .bf16} (hw : w = shapeCast S1x32x512 v shapeCasts_S32x512_S1x32x512)
    {inb : ∀ a, off a + S1x32x512.size a ≤ S4x32x512.size a}
    {hs : (redM.access (Rect.unit (s := S4x32x512) off S1x32x512.size inb)).Stores Finset.univ} {hm}
    {α : Type} {Q : α → sProp 𝕄} {k : PUnit → Prog (TpuEff nD τ sig (Elt F) Λ₀ .tc) α} :
    holdAny c (redSlab h)
      ⊢ iprop((hold c (redSlab h) fullShare v -∗ wp frame (wpE (defs₀ (F := F)) 𝒱₀ (c : Thread nD τ) none) Set.univ (k ⟨⟩) Q)
          -∗ wp frame (wpE (defs₀ (F := F)) 𝒱₀ (c : Thread nD τ) none) Set.univ
              (.op (.store redM (Rect.unit (s := S4x32x512) off S1x32x512.size inb) w Finset.univ hs hm) k) Q) := by
  subst hoff hw
  unfold holdAny hold
  iintro ⟨%v', %f, %hf, H⟩ Hk
  iapply (wp_store 𝒱₀ (c : Thread nD τ) none Set.univ (m := redM) (r := redR h) (Mk := Finset.univ)
    (S := (redSlab h).view.set) (View.set_reshape _ _).ge) $$ H
  iintro H
  iapply Hk
  iexists _
  isplitr
  swap
  · iexact H
  ipureintro
  refine (Memref.read_squeeze_slice redM (redR h) (fun _ => rfl) _ shapeCasts_S1x32x512_S32x512 _).trans ?_
  refine (congrArg (fun u => shapeCast S32x512 u shapeCasts_S1x32x512_S32x512) (View.read_write_univ _ _)).trans ?_
  exact shapeCast_shapeCast v _ _

/-! ## The result -/

/-- The result's rows of device `d` and row block `h` on device `c`: reduced there if they are its own, else the rounded
    rows that were passed on. -/
def outv (c d : Dev nD) (h : Fin 4) : FVec F S32x512 .f32 :=
  if d = c then red m c h else extf .f32 (redBf m d h) bitsLt_bf16_f32

/-- Device `c`'s result with all pieces in place but those in the list `l`. -/
def outHeld (c : Dev nD) (l : List Key) : sProp 𝕄 :=
  iprop(∃ f : Buf (Elt F) (outM.view.loc (c : Thread nD τ)),
    ⌜∀ x, x ∉ l → (outM.access (rowR (srcOf c x).1 (srcOf c x).2)).read (Elt F) f = outv m c (srcOf c x).1 (srcOf c x).2⌝
      ∗ (outM.view.loc (c : Thread nD τ) ↦{fullShare} f))

/-- Loading rows of the result; what it reads plays no part. -/
theorem out_load (c : Dev nD) (l : List Key) {off : Fin 2 → ℕ}
    {inb : ∀ a, off a + S32x512.size a ≤ S512x512.size a}
    {hl : outM.view.LoadsAt (Rect.unit (s := S512x512) off S32x512.size inb).toLoadRect}
    {α : Type} {Q : α → sProp 𝕄} {k : Vec F S32x512 .f32 → Prog (TpuEff nD τ sig (Elt F) Λ₀ .tc) α} :
    outHeld m c l
      ⊢ iprop((∀ w : Vec F S32x512 .f32, outHeld m c l
            -∗ wp frame (wpE (defs₀ (F := F)) 𝒱₀ (c : Thread nD τ) none) Set.univ (k w) Q)
          -∗ wp frame (wpE (defs₀ (F := F)) 𝒱₀ (c : Thread nD τ) none) Set.univ
              (.op (.load outM (Rect.unit (s := S512x512) off S32x512.size inb).toLoadRect hl) k) Q) := by
  unfold outHeld
  iintro ⟨%f, %hf, H⟩ Hk
  iapply (wp_load 𝒱₀ (c : Thread nD τ) none Set.univ (m := outM) (Finset.subset_univ _)) $$ H
  iintro H
  iapply Hk $$ [H]
  iexists f
  isplitr; · ipureintro; exact hf
  iexact H

/-- A piece of the result has the entries of its rows. -/
theorem out_set (p : Fin 4 × Fin 4) : (outM.access (rowR p.1 p.2)).set = (rowR p.1 p.2).set := View.set_slice_whole _ _

/-- Writing one piece of the result leaves the other pieces as they were. -/
theorem read_other {p p' : Fin 4 × Fin 4} (hne : p ≠ p') (f : Vec F S512x512 .f32) (w : Vec F S32x512 .f32) :
    (outM.access (rowR p.1 p.2)).read (Elt F) ((outM.access (rowR p'.1 p'.2)).write (Elt F) f w Finset.univ)
      = (outM.access (rowR p.1 p.2)).read (Elt F) f := by
  funext x
  rw [View.read_apply, View.read_apply]
  refine congrArg _ (View.write_of_not_mem _ _ _ fun hmem => ?_)
  exact Finset.disjoint_left.mp (rowR_apart hne) ((out_set p).le ((outM.access (rowR p.1 p.2)).emb_mem_set x))
    ((out_set p').le hmem)

/-- Storing the next piece of the result. -/
theorem out_store (c : Dev nD) (x : Key) (l : List Key) {off : Fin 2 → ℕ}
    (hoff : off = rowOff (srcOf c x).1 (srcOf c x).2) {w : Vec F S32x512 .f32} (hw : w = outv m c (srcOf c x).1 (srcOf c x).2)
    {inb : ∀ a, off a + S32x512.size a ≤ S512x512.size a}
    {hs : (outM.access (Rect.unit (s := S512x512) off S32x512.size inb)).Stores Finset.univ} {hm}
    {α : Type} {Q : α → sProp 𝕄} {k : PUnit → Prog (TpuEff nD τ sig (Elt F) Λ₀ .tc) α} :
    outHeld m c (x :: l)
      ⊢ iprop((outHeld m c l -∗ wp frame (wpE (defs₀ (F := F)) 𝒱₀ (c : Thread nD τ) none) Set.univ (k ⟨⟩) Q)
          -∗ wp frame (wpE (defs₀ (F := F)) 𝒱₀ (c : Thread nD τ) none) Set.univ
              (.op (.store outM (Rect.unit (s := S512x512) off S32x512.size inb) w Finset.univ hs hm) k) Q) := by
  subst hoff hw
  unfold outHeld
  iintro ⟨%f, %hf, H⟩ Hk
  iapply (wp_store 𝒱₀ (c : Thread nD τ) none Set.univ (m := outM) (r := rowR (srcOf c x).1 (srcOf c x).2) (Mk := Finset.univ)
    (Finset.subset_univ _)) $$ H
  iintro H
  iapply Hk
  iexists _
  isplitr
  swap
  · iexact H
  ipureintro
  intro y hy
  by_cases hyx : y = x
  · subst hyx; exact View.read_write_univ _ _
  · exact (read_other (fun h => hyx (srcOf_injective c h)) f _).trans
      (hf y fun h => (List.mem_cons.mp h).elim hyx hy)

end Cert.AllReduce

end
-- ==== Proof.Blocks.lean ====
/-
# The stages of the kernel, one row block and slot at a time

Casting the block and sending its pieces; adding up a row block; passing the reduced rows on; putting rows in place in the
result; waiting for the departures. What a stage uses and leaves is kept in lists, over the row blocks and slots still to
come and over those done.
-/
module

public import proofs.«01_k».proof.Proof.Rows

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The devices the kernel names -/

/-- The device one place further on, as the kernel computes it. -/
theorem dev_1 (c : Dev nD) : (⟨k0_dev1 c, k0_dev1_lt c⟩ : Dev nD) = dn 2 c := by revert c; decide +kernel
/-- The device two places further on, as the kernel computes it. -/
theorem dev_2 (c : Dev nD) : (⟨k0_dev2 c, k0_dev2_lt c⟩ : Dev nD) = dn 1 c := by revert c; decide +kernel
/-- The device three places further on, as the kernel computes it. -/
theorem dev_3 (c : Dev nD) : (⟨k0_dev3 c, k0_dev3_lt c⟩ : Dev nD) = dn 0 c := by revert c; decide +kernel

/-! ## What is kept in the lists -/

/-- A copy's end that has been waited for: its semaphore at zero for good, and what it handed over. -/
def landed (c : Dev nD) (f : Fin 4) (p : Fin 4 × Fin 3) : sProp 𝕄 :=
  iprop(semVal (cell c f p.1 p.2) 0 ∗ ownPay m c f p.1 p.2)
/-- A copy's end still to be waited for. -/
def waiting (c : Dev nD) (f : Fin 4) (p : Fin 4 × Fin 3) : sProp 𝕄 := pend c f p.1 p.2
/-- All it takes to scatter a piece. -/
def toScatter (c : Dev nD) (p : Fin 4 × Fin 3) : sProp 𝕄 :=
  iprop(hold c (xbRows (dn p.2 c) p.1) fullShare (piece m c (dn p.2 c) p.1) ∗ ready c 0 1 p.1 p.2 (rsSlab p.1 p.2))
/-- All it takes to pass reduced rows on, but for the rows. -/
def toGather (c : Dev nD) (p : Fin 4 × Fin 3) : sProp 𝕄 := ready c 2 3 p.1 p.2 (agSlab p.1 p.2)
/-- A third of the hold on a row block's reduced rows. -/
def third (c : Dev nD) (p : Fin 4 × Fin 3) : sProp 𝕄 :=
  hold c (redSlab p.1) (Ring.shares3 fullShare p.2) (redBf m c p.1)

/-- A hold on reduced rows comes apart in three thirds. -/
theorem hold_thirds (c : Dev nD) (h : Fin 4) :
    hold c (redSlab h) fullShare (redBf m c h) ⊢ iprop(third m c (h, 0) ∗ third m c (h, 1) ∗ third m c (h, 2)) := by
  unfold third hold
  iintro ⟨%f, %hf, H⟩
  ihave H' := ((Ring.pointsTo_thirds fullShare f).1) $$ H
  icases H' with ⟨H0, H1, H2⟩
  isplitl [H0]
  · iexists f; isplitr; · ipureintro; exact hf
    iexact H0
  isplitl [H1]
  · iexists f; isplitr; · ipureintro; exact hf
    iexact H1
  iexists f; isplitr; · ipureintro; exact hf
  iexact H2

variable (K : Dev nD × Cid → ℕ)

/-! ## Sending -/

/-- Scattering one piece: the rows of device `dn s c`, to its slab of slot `s`. -/
theorem scatter_step (c n : Dev nD) (h : Fin 4) (s : Fin 3) (hn : n = dn s c) (dues : List Due)
    (l g : List (Fin 4 × Fin 3)) {off : Fin 2 → ℕ} (hoff : off = rowOff (dn s c) h)
    {inb : ∀ a, off a + S32x512.size a ≤ S512x512.size a}
    {hsc : (rsSlab h s).view.ref.isScScratch = false}
    {hsrc : (xbM.slice (Rect.unit (s := S512x512) off S32x512.size inb) (fun _ => rfl)).view.WordExact}
    {hdst : (rsSlab h s).view.WordExact}
    {hsem : DmaTarget.Typed .vmem (.dma (dsem 1 h s)) (.remote (Dev.tc n : Thread nD τ) (rsSlab h s) (.dma (dsem 0 h s)) hsc)}
    {α : Type} {Q : α → sProp 𝕄} {k : PUnit → Prog (TpuEff nD τ sig (Elt F) Λ₀ .tc) α} :
    iprop(records m K ∗ owing c (.inr (1, h, s) :: dues) ∗ bigSepL ((h, s) :: l) (toScatter m c) ∗ bigSepL g (waiting c 0))
      ⊢ iprop(((owing c dues ∗ bigSepL l (toScatter m c) ∗ bigSepL ((h, s) :: g) (waiting c 0))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xbM.slice (Rect.unit (s := S512x512) off S32x512.size inb) (fun _ => rfl))
                (.remote (Dev.tc n : Thread nD τ) (rsSlab h s) (.dma (dsem 0 h s)) hsc) (.dma (dsem 1 h s)) hsrc hdst hsem) k) Q) := by
  subst hoff
  rw [bigSepL_cons', bigSepL_cons']
  iintro ⟨#HR, HO, ⟨Hx, Hl⟩, Hg⟩ Hk
  unfold toScatter
  icases Hx with ⟨Hs, Hr⟩
  iapply (copy_step m K c n 0 1 h s hn rfl rfl dues rfl (M := rsSlab h s) rfl rfl (q := fullShare)
    (v := piece m c (dn s c) h) (ownPay_0 m c h s) ((ownPay_1 m (dn s c) h s).trans (by rw [up_dn]))) $$ [HO Hs Hr]
  · isplitr; · iexact HR
    isplitl [HO]; · iexact HO
    isplitl [Hs] <;> iassumption
  iintro ⟨HO, Hp⟩
  iapply Hk
  isplitl [HO]; · iexact HO
  isplitl [Hl]; · iexact Hl
  isplitl [Hp]; · unfold waiting; iexact Hp
  iexact Hg

/-- Passing a row block's reduced rows on, to device `dn s c`'s slab of slot `s`. -/
theorem gather_step (c n : Dev nD) (h : Fin 4) (s : Fin 3) (hn : n = dn s c) (dues : List Due)
    (t l g : List (Fin 4 × Fin 3))
    {hsc : (agSlab h s).view.ref.isScScratch = false} {hsrc : (redSlab h).view.WordExact}
    {hdst : (agSlab h s).view.WordExact}
    {hsem : DmaTarget.Typed .vmem (.dma (dsem 3 h s)) (.remote (Dev.tc n : Thread nD τ) (agSlab h s) (.dma (dsem 2 h s)) hsc)}
    {α : Type} {Q : α → sProp 𝕄} {k : PUnit → Prog (TpuEff nD τ sig (Elt F) Λ₀ .tc) α} :
    iprop(records m K ∗ owing c (.inr (3, h, s) :: dues) ∗ bigSepL ((h, s) :: t) (third m c)
        ∗ bigSepL ((h, s) :: l) (toGather c) ∗ bigSepL g (waiting c 2))
      ⊢ iprop(((owing c dues ∗ bigSepL t (third m c) ∗ bigSepL l (toGather c) ∗ bigSepL ((h, s) :: g) (waiting c 2))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (redSlab h) (.remote (Dev.tc n : Thread nD τ) (agSlab h s) (.dma (dsem 2 h s)) hsc)
                (.dma (dsem 3 h s)) hsrc hdst hsem) k) Q) := by
  rw [bigSepL_cons', bigSepL_cons', bigSepL_cons']
  iintro ⟨#HR, HO, ⟨Hs, Ht⟩, ⟨Hr, Hl⟩, Hg⟩ Hk
  unfold third toGather
  iapply (copy_step m K c n 2 3 h s hn rfl rfl dues rfl (M := agSlab h s) rfl rfl (q := Ring.shares3 fullShare s)
    (v := redBf m c h) (ownPay_2 m c h s) ((ownPay_3 m (dn s c) h s).trans (by rw [up_dn]))) $$ [HO Hs Hr]
  · isplitr; · iexact HR
    isplitl [HO]; · iexact HO
    isplitl [Hs] <;> iassumption
  iintro ⟨HO, Hp⟩
  iapply Hk
  isplitl [HO]; · iexact HO
  isplitl [Ht]; · iexact Ht
  isplitl [Hl]; · iexact Hl
  isplitl [Hp]; · unfold waiting; iexact Hp
  iexact Hg

/-! ## Waiting -/

/-- Waiting for the next copy's end of a family. -/
theorem end_step (c : Dev nD) (f h : Fin 4) (s : Fin 3) (dues : List Due)
    (hl : ∀ x ∈ dues, rank (ownSem (f, h, s)) < rank (semOf x)) (l g : List (Fin 4 × Fin 3))
    {sp sp' : Space} {s₁ s₂ : Shape} {e₁ e₂ : EltTy} {κ' : Kind}
    {src : Memref sig .tc sp' s₁ e₁} {dst : Memref sig κ' sp s₂ e₂} {hsrc : src.view.WordExact} {hdst : dst.view.WordExact}
    (hN : dst.view.dmaCredit = N)
    {α : Type} {Q : α → sProp 𝕄} {k : PUnit → Prog (TpuEff nD τ sig (Elt F) Λ₀ .tc) α} :
    iprop(records m K ∗ owing c dues ∗ bigSepL ((h, s) :: l) (waiting c f) ∗ bigSepL g (landed m c f))
      ⊢ iprop(((owing c dues ∗ bigSepL l (waiting c f) ∗ bigSepL ((h, s) :: g) (landed m c f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem f h s) src dst hsrc hdst) k) Q) := by
  rw [bigSepL_cons', bigSepL_cons']
  unfold waiting
  iintro ⟨#HR, HO, ⟨Hp, Hl⟩, Hg⟩ Hk
  iapply (wait_step m K c f h s rfl dues hl hN) $$ [HO Hp]
  · isplitr; · iexact HR
    isplitl [HO] <;> iassumption
  iintro ⟨HO, Hz⟩
  iapply Hk
  isplitl [HO]; · iexact HO
  isplitl [Hl]; · iexact Hl
  unfold landed
  isplitl [Hz]; · iexact Hz
  iexact Hg

/-- Reading the piece that landed last, in a slab of either exchange. -/
theorem landed_load (c : Dev nD) (f h : Fin 4) (s : Fin 3) (M : Memref sig .tc .vmem S4x3x32x512 .bf16)
    {v : Vec F S32x512 .bf16} (hf : ownPay m c f h s
      = hold c ((M.slice (slabR h s) (fun _ => rfl)).squeeze S32x512 squeezes_S1x1x32x512_S32x512) fullShare v)
    (g : List (Fin 4 × Fin 3)) {hl : M.view.LoadsAt (slabR h s).toLoadRect}
    {α : Type} {Q : α → sProp 𝕄} {k : Vec F S1x1x32x512 .bf16 → Prog (TpuEff nD τ sig (Elt F) Λ₀ .tc) α} :
    bigSepL ((h, s) :: g) (landed m c f)
      ⊢ iprop((∀ w : Vec F S1x1x32x512 .bf16, ⌜shapeCast S32x512 w shapeCasts_S1x1x32x512_S32x512 = v⌝
            -∗ bigSepL ((h, s) :: g) (landed m c f)
            -∗ wp frame (wpE (defs₀ (F := F)) 𝒱₀ (c : Thread nD τ) none) Set.univ (k w) Q)
          -∗ wp frame (wpE (defs₀ (F := F)) 𝒱₀ (c : Thread nD τ) none) Set.univ (.op (.load M (slabR h s).toLoadRect hl) k) Q) := by
  rw [bigSepL_cons']
  unfold landed
  rw [hf]
  iintro ⟨⟨Hz, Hv⟩, Hg⟩ Hk
  iapply (slab_load c M h s rfl) $$ Hv
  iintro %w %hw Hv
  iapply Hk $$ %w [] [Hz Hv Hg]
  · ipureintro; exact hw
  isplitl [Hz Hv]
  · isplitl [Hz] <;> iassumption
  iexact Hg

/-- A scattered piece's arrival stands at 2 in the order of waiting. -/
theorem rank_arrival (h : Fin 4) (s : Fin 3) : rank (ownSem (1, h, s)) = 2 := by revert h s; decide

/-! ## Adding up a row block -/

/-- A row block added up: the own rows are read, each of the three pieces is waited for and read, and the rounded sum is
    stored. The program may go on with the four values in its own way, as long as what it stores is their rounded sum. -/
theorem reduce_block (c : Dev nD) (h : Fin 4) (dues : List Due) (hd : ∀ x ∈ dues, 2 < rank (semOf x))
    (l g : List (Fin 4 × Fin 3)) (r : List (Fin 4)) {off : Fin 2 → ℕ} (hoff : off = rowOff c h)
    {inb : ∀ a, off a + S32x512.size a ≤ S512x512.size a}
    {hl : inM.view.LoadsAt (Rect.unit (s := S512x512) off S32x512.size inb).toLoadRect}
    {sp : Space} {s₁ : Shape} {e₁ : EltTy} {src₂ src₀ src₁ : Memref sig .tc sp s₁ e₁}
    {hsrc₂ : src₂.view.WordExact} {hsrc₀ : src₀.view.WordExact} {hsrc₁ : src₁.view.WordExact}
    {hdst₂ : (rsSlab h 2).view.WordExact} {hdst₀ : (rsSlab h 0).view.WordExact} {hdst₁ : (rsSlab h 1).view.WordExact}
    {hl₂ : rsM.view.LoadsAt (slabR h 2).toLoadRect} {hl₀ : rsM.view.LoadsAt (slabR h 0).toLoadRect}
    {hl₁ : rsM.view.LoadsAt (slabR h 1).toLoadRect} {hlr : redM.view.LoadsAt (redR h).toLoadRect}
    {hs : (redM.access (redR h)).Stores Finset.univ} {hm}
    {pay : Vec F S32x512 .bf16 → Vec F S1x1x32x512 .bf16 → Vec F S1x1x32x512 .bf16 → Vec F S1x1x32x512 .bf16 → Vec F S1x32x512 .bf16}
    (hpay : ∀ v w₂ w₀ w₁, pay v w₂ w₀ w₁ = shapeCast S1x32x512
      (truncf .bf16 (sum4 v (shapeCast S32x512 w₂ shapeCasts_S1x1x32x512_S32x512)
        (shapeCast S32x512 w₀ shapeCasts_S1x1x32x512_S32x512) (shapeCast S32x512 w₁ shapeCasts_S1x1x32x512_S32x512)) bitsLt_bf16_f32)
      shapeCasts_S32x512_S1x32x512)
    {α : Type} {Q : α → sProp 𝕄}
    {k : Vec F S32x512 .bf16 → Vec F S1x1x32x512 .bf16 → Vec F S1x1x32x512 .bf16 → Vec F S1x1x32x512 .bf16
      → Prog (TpuEff nD τ sig (Elt F) Λ₀ .tc) α} :
    iprop(records m K ∗ owing c dues ∗ inHeld m c ∗ bigSepL ((h, 2) :: (h, 0) :: (h, 1) :: l) (waiting c 1)
        ∗ bigSepL g (landed m c 1) ∗ bigSepL (h :: r) (fun h => holdAny c (redSlab h)))
      ⊢ iprop((∀ w₂ : Vec F S1x1x32x512 .bf16, ∀ w₀ : Vec F S1x1x32x512 .bf16, ∀ w₁ : Vec F S1x1x32x512 .bf16,
            ⌜sum4 (piece m c c h) (shapeCast S32x512 w₂ shapeCasts_S1x1x32x512_S32x512)
              (shapeCast S32x512 w₀ shapeCasts_S1x1x32x512_S32x512) (shapeCast S32x512 w₁ shapeCasts_S1x1x32x512_S32x512)
                = red m c h⌝
            -∗ (owing c dues ∗ inHeld m c ∗ bigSepL l (waiting c 1) ∗ bigSepL ((h, 1) :: (h, 0) :: (h, 2) :: g) (landed m c 1)
              ∗ bigSepL r (fun h => holdAny c (redSlab h)) ∗ bigSepL [(h, 1), (h, 2), (h, 0)] (third m c))
            -∗ wp frame (wpE (defs₀ (F := F)) 𝒱₀ (c : Thread nD τ) none) Set.univ (k (piece m c c h) w₂ w₀ w₁) Q)
          -∗ wp frame (wpE (defs₀ (F := F)) 𝒱₀ (c : Thread nD τ) none) Set.univ
              (.op (.load inM (Rect.unit (s := S512x512) off S32x512.size inb).toLoadRect hl) fun v =>
               .op (.waitDma2 (dsem 1 h 2) src₂ (rsSlab h 2) hsrc₂ hdst₂) fun _ =>
               .op (.load rsM (slabR h 2).toLoadRect hl₂) fun w₂ =>
               .op (.waitDma2 (dsem 1 h 0) src₀ (rsSlab h 0) hsrc₀ hdst₀) fun _ =>
               .op (.load rsM (slabR h 0).toLoadRect hl₀) fun w₀ =>
               .op (.waitDma2 (dsem 1 h 1) src₁ (rsSlab h 1) hsrc₁ hdst₁) fun _ =>
               .op (.load rsM (slabR h 1).toLoadRect hl₁) fun w₁ =>
               .op (.load redM (redR h).toLoadRect hlr) fun _ =>
               .op (.store redM (redR h) (pay v w₂ w₀ w₁) Finset.univ hs hm) fun _ => k v w₂ w₀ w₁) Q) := by
  have hr : ∀ s, ∀ x ∈ dues, rank (ownSem (1, h, s)) < rank (semOf x) := fun s x hx =>
    lt_of_eq_of_lt (rank_arrival h s) (hd x hx)
  iintro ⟨#HR, HO, Hx, Hw, Hg, Hred⟩ Hk
  iapply (in_load m c c h hoff) $$ Hx
  iintro Hx
  iapply (end_step m K c 1 h 2 (dst := rsSlab h 2) dues (hr 2) ((h, 0) :: (h, 1) :: l) g rfl) $$ [HO Hw Hg]
  · isplitr; · iexact HR
    isplitl [HO]; · iexact HO
    isplitl [Hw] <;> iassumption
  iintro ⟨HO, Hw, Hg⟩
  iapply (landed_load m c 1 h 2 rsM (ownPay_1 m c h 2) g) $$ Hg
  iintro %w₂ %h₂ Hg
  iapply (end_step m K c 1 h 0 (dst := rsSlab h 0) dues (hr 0) ((h, 1) :: l) ((h, 2) :: g) rfl) $$ [HO Hw Hg]
  · isplitr; · iexact HR
    isplitl [HO]; · iexact HO
    isplitl [Hw] <;> iassumption
  iintro ⟨HO, Hw, Hg⟩
  iapply (landed_load m c 1 h 0 rsM (ownPay_1 m c h 0) ((h, 2) :: g)) $$ Hg
  iintro %w₀ %h₀ Hg
  iapply (end_step m K c 1 h 1 (dst := rsSlab h 1) dues (hr 1) l ((h, 0) :: (h, 2) :: g) rfl) $$ [HO Hw Hg]
  · isplitr; · iexact HR
    isplitl [HO]; · iexact HO
    isplitl [Hw] <;> iassumption
  iintro ⟨HO, Hw, Hg⟩
  iapply (landed_load m c 1 h 1 rsM (ownPay_1 m c h 1) ((h, 0) :: (h, 2) :: g)) $$ Hg
  iintro %w₁ %h₁ Hg
  have hsum : sum4 (piece m c c h) (shapeCast S32x512 w₂ shapeCasts_S1x1x32x512_S32x512)
      (shapeCast S32x512 w₀ shapeCasts_S1x1x32x512_S32x512) (shapeCast S32x512 w₁ shapeCasts_S1x1x32x512_S32x512)
        = red m c h := by rw [h₂, h₀, h₁]; rfl
  ihave Hred' := (Entails.of_eq (bigSepL_cons' h r (fun h => holdAny (F := F) c (redSlab h)))) $$ Hred
  icases Hred' with ⟨Hr, Hred⟩
  iapply (red_load c h rfl) $$ Hr
  iintro %w Hr
  iapply (red_store c h rfl (v := redBf m c h) ((hpay (piece m c c h) w₂ w₀ w₁).trans (by rw [hsum]; rfl))) $$ Hr
  iintro Hr
  ihave Ht := (hold_thirds m c h) $$ Hr
  icases Ht with ⟨H0, H1, H2⟩
  iapply Hk $$ %w₂ %w₀ %w₁ [] [HO Hx Hw Hg Hred H0 H1 H2]
  · ipureintro; exact hsum
  isplitl [HO]; · iexact HO
  isplitl [Hx]; · iexact Hx
  isplitl [Hw]; · iexact Hw
  isplitl [Hg]; · iexact Hg
  isplitl [Hred]; · iexact Hred
  rw [bigSepL_cons', bigSepL_cons', bigSepL_singleton]
  isplitl [H1]; · iexact H1
  isplitl [H2]; · iexact H2
  iexact H0

/-! ## Putting rows in place -/

/-- The rows of a further piece of the result: read, to no effect, and written. -/
theorem place_step (c : Dev nD) (x : Key) (l : List Key) {off : Fin 2 → ℕ}
    (hoff : off = rowOff (srcOf c x).1 (srcOf c x).2) {w : Vec F S32x512 .f32} (hw : w = outv m c (srcOf c x).1 (srcOf c x).2)
    {inb : ∀ a, off a + S32x512.size a ≤ S512x512.size a}
    {hld : outM.view.LoadsAt (Rect.unit (s := S512x512) off S32x512.size inb).toLoadRect}
    {hs : (outM.access (Rect.unit (s := S512x512) off S32x512.size inb)).Stores Finset.univ} {hm}
    {α : Type} {Q : α → sProp 𝕄} {k : Prog (TpuEff nD τ sig (Elt F) Λ₀ .tc) α} :
    outHeld m c (x :: l)
      ⊢ iprop((outHeld m c l -∗ wp frame (wpE (defs₀ (F := F)) 𝒱₀ (c : Thread nD τ) none) Set.univ k Q)
          -∗ wp frame (wpE (defs₀ (F := F)) 𝒱₀ (c : Thread nD τ) none) Set.univ
              (.op (.load outM (Rect.unit (s := S512x512) off S32x512.size inb).toLoadRect hld) fun _ =>
               .op (.store outM (Rect.unit (s := S512x512) off S32x512.size inb) w Finset.univ hs hm) fun _ => k) Q) := by
  iintro H Hk
  iapply (out_load m c (x :: l)) $$ H
  iintro %_ H
  iapply (out_store m c x l hoff hw) $$ H
  iintro H
  iapply Hk; iexact H

/-- Gathered rows: their arrival is waited for, they are read, and they go in place, widened. -/
theorem gathered_block (c : Dev nD) (h : Fin 4) (s : Fin 3) (l g : List (Fin 4 × Fin 3)) (o : List Key) {off : Fin 2 → ℕ}
    (hoff : off = rowOff (up s c) h)
    {inb : ∀ a, off a + S32x512.size a ≤ S512x512.size a}
    {sp : Space} {s₁ : Shape} {e₁ : EltTy} {src : Memref sig .tc sp s₁ e₁}
    {hsrc : src.view.WordExact} {hdst : (agSlab h s).view.WordExact}
    {hla : agM.view.LoadsAt (slabR h s).toLoadRect}
    {hld : outM.view.LoadsAt (Rect.unit (s := S512x512) off S32x512.size inb).toLoadRect}
    {hs : (outM.access (Rect.unit (s := S512x512) off S32x512.size inb)).Stores Finset.univ} {hm}
    {pay : Vec F S1x1x32x512 .bf16 → Vec F S32x512 .f32}
    (hpay : ∀ w, pay w = extf .f32 (shapeCast S32x512 w shapeCasts_S1x1x32x512_S32x512 : FVec F S32x512 .bf16) bitsLt_bf16_f32)
    {α : Type} {Q : α → sProp 𝕄} {k : Vec F S1x1x32x512 .bf16 → Prog (TpuEff nD τ sig (Elt F) Λ₀ .tc) α} :
    iprop(records m K ∗ owing c [] ∗ bigSepL ((h, s) :: l) (waiting c 3) ∗ bigSepL g (landed m c 3) ∗ outHeld m c (.inr (h, s) :: o))
      ⊢ iprop((∀ w, (owing c [] ∗ bigSepL l (waiting c 3) ∗ bigSepL ((h, s) :: g) (landed m c 3) ∗ outHeld m c o)
            -∗ wp frame (wpE (defs₀ (F := F)) 𝒱₀ (c : Thread nD τ) none) Set.univ (k w) Q)
          -∗ wp frame (wpE (defs₀ (F := F)) 𝒱₀ (c : Thread nD τ) none) Set.univ
              (.op (.waitDma2 (dsem 3 h s) src (agSlab h s) hsrc hdst) fun _ =>
               .op (.load agM (slabR h s).toLoadRect hla) fun w =>
               .op (.load outM (Rect.unit (s := S512x512) off S32x512.size inb).toLoadRect hld) fun _ =>
               .op (.store outM (Rect.unit (s := S512x512) off S32x512.size inb) (pay w) Finset.univ hs hm) fun _ => k w) Q) := by
  iintro ⟨#HR, HO, Hw, Hg, Hout⟩ Hk
  iapply (end_step m K c 3 h s (dst := agSlab h s) [] (fun x hx => absurd hx List.not_mem_nil) l g rfl) $$ [HO Hw Hg]
  · isplitr; · iexact HR
    isplitl [HO]; · iexact HO
    isplitl [Hw] <;> iassumption
  iintro ⟨HO, Hw, Hg⟩
  iapply (landed_load m c 3 h s agM (ownPay_3 m c h s) g) $$ Hg
  iintro %w %hw Hg
  iapply (place_step m c (.inr (h, s)) o hoff (w := pay w)
    ((hpay w).trans (by rw [hw]; unfold outv; rw [if_neg (up_ne s c)]))) $$ Hout
  iintro Hout
  iapply Hk
  isplitl [HO]; · iexact HO
  isplitl [Hw]; · iexact Hw
  isplitl [Hg] <;> iassumption

/-- The departures of a row block and slot: the scattered piece's, then the gathered one's. -/
theorem departed_block (c : Dev nD) (h : Fin 4) (s : Fin 3) (l₀ g₀ l₂ g₂ : List (Fin 4 × Fin 3))
    {sp sp' : Space} {s₁ s₂ : Shape} {e₁ e₂ : EltTy} {κ₁ κ₂ : Kind}
    {src₀ : Memref sig .tc sp s₁ e₁} {src₂ : Memref sig .tc sp' s₂ e₂}
    {dst₀ : Memref sig κ₁ .vmem S32x512 .bf16} {dst₂ : Memref sig κ₂ .vmem S32x512 .bf16}
    {hsrc₀ : src₀.view.WordExact} {hdst₀ : dst₀.view.WordExact} {hsrc₂ : src₂.view.WordExact} {hdst₂ : dst₂.view.WordExact}
    (hN₀ : dst₀.view.dmaCredit = N) (hN₂ : dst₂.view.dmaCredit = N)
    {α : Type} {Q : α → sProp 𝕄} {k : Prog (TpuEff nD τ sig (Elt F) Λ₀ .tc) α} :
    iprop(records m K ∗ owing c [] ∗ bigSepL ((h, s) :: l₀) (waiting c 0) ∗ bigSepL g₀ (landed m c 0)
        ∗ bigSepL ((h, s) :: l₂) (waiting c 2) ∗ bigSepL g₂ (landed m c 2))
      ⊢ iprop(((owing c [] ∗ bigSepL l₀ (waiting c 0) ∗ bigSepL ((h, s) :: g₀) (landed m c 0)
            ∗ bigSepL l₂ (waiting c 2) ∗ bigSepL ((h, s) :: g₂) (landed m c 2))
            -∗ wp frame (wpE (defs₀ (F := F)) 𝒱₀ (c : Thread nD τ) none) Set.univ k Q)
          -∗ wp frame (wpE (defs₀ (F := F)) 𝒱₀ (c : Thread nD τ) none) Set.univ
              (.op (.waitDma2 (dsem 0 h s) src₀ dst₀ hsrc₀ hdst₀) fun _ =>
               .op (.waitDma2 (dsem 2 h s) src₂ dst₂ hsrc₂ hdst₂) fun _ => k) Q) := by
  iintro ⟨#HR, HO, Hw₀, Hg₀, Hw₂, Hg₂⟩ Hk
  iapply (end_step m K c 0 h s [] (fun x hx => absurd hx List.not_mem_nil) l₀ g₀ hN₀) $$ [HO Hw₀ Hg₀]
  · isplitr; · iexact HR
    isplitl [HO]; · iexact HO
    isplitl [Hw₀] <;> iassumption
  iintro ⟨HO, Hw₀, Hg₀⟩
  iapply (end_step m K c 2 h s [] (fun x hx => absurd hx List.not_mem_nil) l₂ g₂ hN₂) $$ [HO Hw₂ Hg₂]
  · isplitr; · iexact HR
    isplitl [HO]; · iexact HO
    isplitl [Hw₂] <;> iassumption
  iintro ⟨HO, Hw₂, Hg₂⟩
  iapply Hk
  isplitl [HO]; · iexact HO
  isplitl [Hw₀]; · iexact Hw₀
  isplitl [Hg₀]; · iexact Hg₀
  isplitl [Hw₂] <;> iassumption

end Cert.AllReduce

end
-- ==== Proof.Stages.lean ====
/-
# What a device holds from one stage to the next

The kernel's four stages (scattering, adding up, putting in place, waiting for the departures), each with one predicate
over the row blocks and slots still to come, and the step that takes each of them one further.
-/
module

public import proofs.«01_k».proof.Proof.Blocks

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cid → ℕ)

/-- A gathered piece's due stands after every wait of the first exchange. -/
theorem gather_above (l : List (Fin 4 × Fin 3)) : ∀ x ∈ l.map gatherDue, 2 < rank (semOf x) := by
  intro x hx
  obtain ⟨⟨h, s⟩, -, rfl⟩ := List.mem_map.mp hx
  have above : ∀ (h : Fin 4) (s : Fin 3), 2 < rank (semOf (gatherDue (h, s))) := by decide
  exact above h s

/-! ## Scattering -/

/-- The pieces `l` are still to be scattered; the departures `g` of those scattered are to be waited for. -/
def scattering (c : Dev nD) (l g : List (Fin 4 × Fin 3)) : sProp 𝕄 :=
  iprop(records m K ∗ owing c (l.map scatterDue ++ gathered) ∗ bigSepL l (toScatter m c) ∗ bigSepL g (waiting c 0))

/-- Scattering one piece: the rows of device `dn s c`, to its slab of slot `s`. -/
theorem scatter (c n : Dev nD) (h : Fin 4) (s : Fin 3) (hn : n = dn s c) (l g : List (Fin 4 × Fin 3))
    {off : Fin 2 → ℕ} (hoff : off = rowOff (dn s c) h)
    {inb : ∀ a, off a + S32x512.size a ≤ S512x512.size a}
    {hsc : (rsSlab h s).view.ref.isScScratch = false}
    {hsrc : (xbM.slice (Rect.unit (s := S512x512) off S32x512.size inb) (fun _ => rfl)).view.WordExact}
    {hdst : (rsSlab h s).view.WordExact}
    {hsem : DmaTarget.Typed .vmem (.dma (dsem 1 h s)) (.remote (Dev.tc n : Thread nD τ) (rsSlab h s) (.dma (dsem 0 h s)) hsc)}
    {α : Type} {Q : α → sProp 𝕄} {k : PUnit → Prog (TpuEff nD τ sig (Elt F) Λ₀ .tc) α} :
    scattering m K c ((h, s) :: l) g
      ⊢ iprop((scattering m K c l ((h, s) :: g)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xbM.slice (Rect.unit (s := S512x512) off S32x512.size inb) (fun _ => rfl))
                (.remote (Dev.tc n : Thread nD τ) (rsSlab h s) (.dma (dsem 0 h s)) hsc) (.dma (dsem 1 h s)) hsrc hdst hsem) k) Q) := by
  unfold scattering
  iintro ⟨#HR, H⟩ Hk
  iapply (scatter_step m K c n h s hn (l.map scatterDue ++ gathered) l g hoff) $$ [H]
  · isplitr; · iexact HR
    iexact H
  iintro H
  iapply Hk
  isplitr <;> iassumption

/-! ## Adding up and passing on -/

/-- The row blocks `r` are still to be added up, the thirds `t` of reduced rows are to be passed on next, `l` is all
    there is to pass on, and `o` lists the pieces of the result still to be put in place. -/
def reducing (c : Dev nD) (r : List (Fin 4)) (w₁ g₁ t l w₂ : List (Fin 4 × Fin 3)) (o : List Key) : sProp 𝕄 :=
  iprop(records m K ∗ owing c (l.map gatherDue) ∗ inHeld m c ∗ bigSepL w₁ (waiting c 1) ∗ bigSepL g₁ (landed m c 1)
    ∗ bigSepL r (fun h => holdAny c (redSlab h)) ∗ bigSepL t (third m c) ∗ bigSepL l (toGather c)
    ∗ bigSepL w₂ (waiting c 2) ∗ outHeld m c o)

/-- A row block added up: the own rows are read, each of the three pieces is waited for and read, and the rounded sum is
    stored. The program may go on with the four values in its own way, as long as what it stores is their rounded sum. -/
theorem reduce (c : Dev nD) (h : Fin 4) (r : List (Fin 4)) (w₁ g₁ l w₂ : List (Fin 4 × Fin 3)) (o : List Key)
    {off : Fin 2 → ℕ} (hoff : off = rowOff c h)
    {inb : ∀ a, off a + S32x512.size a ≤ S512x512.size a}
    {hl : inM.view.LoadsAt (Rect.unit (s := S512x512) off S32x512.size inb).toLoadRect}
    {sp : Space} {s₁ : Shape} {e₁ : EltTy} {src₂ src₀ src₁ : Memref sig .tc sp s₁ e₁}
    {hsrc₂ : src₂.view.WordExact} {hsrc₀ : src₀.view.WordExact} {hsrc₁ : src₁.view.WordExact}
    {hdst₂ : (rsSlab h 2).view.WordExact} {hdst₀ : (rsSlab h 0).view.WordExact} {hdst₁ : (rsSlab h 1).view.WordExact}
    {hl₂ : rsM.view.LoadsAt (slabR h 2).toLoadRect} {hl₀ : rsM.view.LoadsAt (slabR h 0).toLoadRect}
    {hl₁ : rsM.view.LoadsAt (slabR h 1).toLoadRect} {hlr : redM.view.LoadsAt (redR h).toLoadRect}
    {hs : (redM.access (redR h)).Stores Finset.univ} {hm}
    {pay : Vec F S32x512 .bf16 → Vec F S1x1x32x512 .bf16 → Vec F S1x1x32x512 .bf16 → Vec F S1x1x32x512 .bf16 → Vec F S1x32x512 .bf16}
    (hpay : ∀ v w₂ w₀ w₁, pay v w₂ w₀ w₁ = shapeCast S1x32x512
      (truncf .bf16 (sum4 v (shapeCast S32x512 w₂ shapeCasts_S1x1x32x512_S32x512)
        (shapeCast S32x512 w₀ shapeCasts_S1x1x32x512_S32x512) (shapeCast S32x512 w₁ shapeCasts_S1x1x32x512_S32x512)) bitsLt_bf16_f32)
      shapeCasts_S32x512_S1x32x512)
    {α : Type} {Q : α → sProp 𝕄}
    {k : Vec F S32x512 .bf16 → Vec F S1x1x32x512 .bf16 → Vec F S1x1x32x512 .bf16 → Vec F S1x1x32x512 .bf16
      → Prog (TpuEff nD τ sig (Elt F) Λ₀ .tc) α} :
    reducing m K c (h :: r) ((h, 2) :: (h, 0) :: (h, 1) :: w₁) g₁ [] l w₂ o
      ⊢ iprop((∀ w₂' : Vec F S1x1x32x512 .bf16, ∀ w₀' : Vec F S1x1x32x512 .bf16, ∀ w₁' : Vec F S1x1x32x512 .bf16,
            ⌜sum4 (piece m c c h) (shapeCast S32x512 w₂' shapeCasts_S1x1x32x512_S32x512)
              (shapeCast S32x512 w₀' shapeCasts_S1x1x32x512_S32x512) (shapeCast S32x512 w₁' shapeCasts_S1x1x32x512_S32x512)
                = red m c h⌝
            -∗ reducing m K c r w₁ ((h, 1) :: (h, 0) :: (h, 2) :: g₁) [(h, 1), (h, 2), (h, 0)] l w₂ o
            -∗ wp frame (wpE (defs₀ (F := F)) 𝒱₀ (c : Thread nD τ) none) Set.univ (k (piece m c c h) w₂' w₀' w₁') Q)
          -∗ wp frame (wpE (defs₀ (F := F)) 𝒱₀ (c : Thread nD τ) none) Set.univ
              (.op (.load inM (Rect.unit (s := S512x512) off S32x512.size inb).toLoadRect hl) fun v =>
               .op (.waitDma2 (dsem 1 h 2) src₂ (rsSlab h 2) hsrc₂ hdst₂) fun _ =>
               .op (.load rsM (slabR h 2).toLoadRect hl₂) fun w₂ =>
               .op (.waitDma2 (dsem 1 h 0) src₀ (rsSlab h 0) hsrc₀ hdst₀) fun _ =>
               .op (.load rsM (slabR h 0).toLoadRect hl₀) fun w₀ =>
               .op (.waitDma2 (dsem 1 h 1) src₁ (rsSlab h 1) hsrc₁ hdst₁) fun _ =>
               .op (.load rsM (slabR h 1).toLoadRect hl₁) fun w₁ =>
               .op (.load redM (redR h).toLoadRect hlr) fun _ =>
               .op (.store redM (redR h) (pay v w₂ w₀ w₁) Finset.univ hs hm) fun _ => k v w₂ w₀ w₁) Q) := by
  unfold reducing
  iintro ⟨#HR, HO, Hx, Hw, Hg, Hr, -, Hrest⟩ Hk
  iapply (reduce_block m K c h (l.map gatherDue) (gather_above l) w₁ g₁ r hoff hpay) $$ [HO Hx Hw Hg Hr]
  · isplitr; · iexact HR
    isplitl [HO]; · iexact HO
    isplitl [Hx]; · iexact Hx
    isplitl [Hw]; · iexact Hw
    isplitl [Hg] <;> iassumption
  iintro %a %b %d %hsum ⟨HO, Hx, Hw, Hg, Hr, Ht⟩
  iapply Hk $$ %a %b %d [] [HO Hx Hw Hg Hr Ht Hrest]
  · ipureintro; exact hsum
  isplitr; · iexact HR
  isplitl [HO]; · iexact HO
  isplitl [Hx]; · iexact Hx
  isplitl [Hw]; · iexact Hw
  isplitl [Hg]; · iexact Hg
  isplitl [Hr]; · iexact Hr
  isplitl [Ht]; · iexact Ht
  iexact Hrest

/-- Passing a row block's reduced rows on, to device `dn s c`'s slab of slot `s`. -/
theorem pass (c n : Dev nD) (h : Fin 4) (s : Fin 3) (hn : n = dn s c) (r : List (Fin 4))
    (w₁ g₁ t l w₂ : List (Fin 4 × Fin 3)) (o : List Key)
    {hsc : (agSlab h s).view.ref.isScScratch = false} {hsrc : (redSlab h).view.WordExact}
    {hdst : (agSlab h s).view.WordExact}
    {hsem : DmaTarget.Typed .vmem (.dma (dsem 3 h s)) (.remote (Dev.tc n : Thread nD τ) (agSlab h s) (.dma (dsem 2 h s)) hsc)}
    {α : Type} {Q : α → sProp 𝕄} {k : PUnit → Prog (TpuEff nD τ sig (Elt F) Λ₀ .tc) α} :
    reducing m K c r w₁ g₁ ((h, s) :: t) ((h, s) :: l) w₂ o
      ⊢ iprop((reducing m K c r w₁ g₁ t l ((h, s) :: w₂) o
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (redSlab h) (.remote (Dev.tc n : Thread nD τ) (agSlab h s) (.dma (dsem 2 h s)) hsc)
                (.dma (dsem 3 h s)) hsrc hdst hsem) k) Q) := by
  unfold reducing
  iintro ⟨#HR, HO, Hx, Hw, Hg, Hr, Ht, Hl, Hd, Hout⟩ Hk
  iapply (gather_step m K c n h s hn (l.map gatherDue) t l w₂) $$ [HO Ht Hl Hd]
  · isplitr; · iexact HR
    isplitl [HO]; · iexact HO
    isplitl [Ht]; · iexact Ht
    isplitl [Hl] <;> iassumption
  iintro ⟨HO, Ht, Hl, Hd⟩
  iapply Hk
  isplitr; · iexact HR
  isplitl [HO]; · iexact HO
  isplitl [Hx]; · iexact Hx
  isplitl [Hw]; · iexact Hw
  isplitl [Hg]; · iexact Hg
  isplitl [Hr]; · iexact Hr
  isplitl [Ht]; · iexact Ht
  isplitl [Hl]; · iexact Hl
  isplitl [Hd] <;> iassumption

/-- The own rows of a row block go in place, not rounded. -/
theorem place_own (c : Dev nD) (h : Fin 4) (r : List (Fin 4)) (w₁ g₁ t l w₂ : List (Fin 4 × Fin 3)) (o : List Key)
    {off : Fin 2 → ℕ} (hoff : off = rowOff c h) {w : Vec F S32x512 .f32} (hw : w = red m c h)
    {inb : ∀ a, off a + S32x512.size a ≤ S512x512.size a}
    {hld : outM.view.LoadsAt (Rect.unit (s := S512x512) off S32x512.size inb).toLoadRect}
    {hs : (outM.access (Rect.unit (s := S512x512) off S32x512.size inb)).Stores Finset.univ} {hm}
    {α : Type} {Q : α → sProp 𝕄} {k : Prog (TpuEff nD τ sig (Elt F) Λ₀ .tc) α} :
    reducing m K c r w₁ g₁ t l w₂ (.inl h :: o)
      ⊢ iprop((reducing m K c r w₁ g₁ t l w₂ o
            -∗ wp frame (wpE (defs₀ (F := F)) 𝒱₀ (c : Thread nD τ) none) Set.univ k Q)
          -∗ wp frame (wpE (defs₀ (F := F)) 𝒱₀ (c : Thread nD τ) none) Set.univ
              (.op (.load outM (Rect.unit (s := S512x512) off S32x512.size inb).toLoadRect hld) fun _ =>
               .op (.store outM (Rect.unit (s := S512x512) off S32x512.size inb) w Finset.univ hs hm) fun _ => k) Q) := by
  unfold reducing
  iintro ⟨#HR, HO, Hx, Hw, Hg, Hr, Ht, Hl, Hd, Hout⟩ Hk
  iapply (place_step m c (.inl h) o hoff (hw.trans (by unfold outv; rw [if_pos rfl]))) $$ Hout
  iintro Hout
  iapply Hk
  isplitr; · iexact HR
  isplitl [HO]; · iexact HO
  isplitl [Hx]; · iexact Hx
  isplitl [Hw]; · iexact Hw
  isplitl [Hg]; · iexact Hg
  isplitl [Hr]; · iexact Hr
  isplitl [Ht]; · iexact Ht
  isplitl [Hl]; · iexact Hl
  isplitl [Hd] <;> iassumption

/-! ## Putting the gathered rows in place -/

/-- The gathered pieces `l` are still to be waited for, `g` have come, and `o` lists the pieces of the result still to be
    put in place. -/
def placing (c : Dev nD) (l g : List (Fin 4 × Fin 3)) (o : List Key) : sProp 𝕄 :=
  iprop(records m K ∗ owing c [] ∗ bigSepL l (waiting c 3) ∗ bigSepL g (landed m c 3) ∗ outHeld m c o)

/-- Gathered rows: their arrival is waited for, they are read, and they go in place, widened. -/
theorem place (c : Dev nD) (h : Fin 4) (s : Fin 3) (l g : List (Fin 4 × Fin 3)) (o : List Key) {off : Fin 2 → ℕ}
    (hoff : off = rowOff (up s c) h)
    {inb : ∀ a, off a + S32x512.size a ≤ S512x512.size a}
    {sp : Space} {s₁ : Shape} {e₁ : EltTy} {src : Memref sig .tc sp s₁ e₁}
    {hsrc : src.view.WordExact} {hdst : (agSlab h s).view.WordExact}
    {hla : agM.view.LoadsAt (slabR h s).toLoadRect}
    {hld : outM.view.LoadsAt (Rect.unit (s := S512x512) off S32x512.size inb).toLoadRect}
    {hs : (outM.access (Rect.unit (s := S512x512) off S32x512.size inb)).Stores Finset.univ} {hm}
    {pay : Vec F S1x1x32x512 .bf16 → Vec F S32x512 .f32}
    (hpay : ∀ w, pay w = extf .f32 (shapeCast S32x512 w shapeCasts_S1x1x32x512_S32x512 : FVec F S32x512 .bf16) bitsLt_bf16_f32)
    {α : Type} {Q : α → sProp 𝕄} {k : Vec F S1x1x32x512 .bf16 → Prog (TpuEff nD τ sig (Elt F) Λ₀ .tc) α} :
    placing m K c ((h, s) :: l) g (.inr (h, s) :: o)
      ⊢ iprop((∀ w, placing m K c l ((h, s) :: g) o
            -∗ wp frame (wpE (defs₀ (F := F)) 𝒱₀ (c : Thread nD τ) none) Set.univ (k w) Q)
          -∗ wp frame (wpE (defs₀ (F := F)) 𝒱₀ (c : Thread nD τ) none) Set.univ
              (.op (.waitDma2 (dsem 3 h s) src (agSlab h s) hsrc hdst) fun _ =>
               .op (.load agM (slabR h s).toLoadRect hla) fun w =>
               .op (.load outM (Rect.unit (s := S512x512) off S32x512.size inb).toLoadRect hld) fun _ =>
               .op (.store outM (Rect.unit (s := S512x512) off S32x512.size inb) (pay w) Finset.univ hs hm) fun _ => k w) Q) := by
  unfold placing
  iintro ⟨#HR, H⟩ Hk
  iapply (gathered_block m K c h s l g o hoff hpay) $$ [H]
  · isplitr; · iexact HR
    iexact H
  iintro %w H
  iapply Hk $$ %w [H]
  isplitr <;> iassumption

/-! ## The departures -/

/-- The departures of both exchanges still to be waited for, `l`, and those waited for, `g`. -/
def departing (c : Dev nD) (l g : List (Fin 4 × Fin 3)) : sProp 𝕄 :=
  iprop(records m K ∗ owing c [] ∗ bigSepL l (waiting c 0) ∗ bigSepL g (landed m c 0)
    ∗ bigSepL l (waiting c 2) ∗ bigSepL g (landed m c 2))

/-- The departures of a row block and slot: the scattered piece's, then the gathered one's. -/
theorem depart (c : Dev nD) (h : Fin 4) (s : Fin 3) (l g : List (Fin 4 × Fin 3))
    {sp sp' : Space} {s₁ s₂ : Shape} {e₁ e₂ : EltTy} {off : Fin 2 → ℕ}
    {inb : ∀ a, off a + S32x512.size a ≤ S512x512.size a}
    {src₀ : Memref sig .tc sp s₁ e₁} {src₂ : Memref sig .tc sp' s₂ e₂}
    {hsrc₀ : src₀.view.WordExact}
    {hdst₀ : (xbM.slice (Rect.unit (s := S512x512) off S32x512.size inb) (fun _ => rfl)).view.WordExact}
    {hsrc₂ : src₂.view.WordExact} {hdst₂ : (redSlab h).view.WordExact}
    {α : Type} {Q : α → sProp 𝕄} {k : Prog (TpuEff nD τ sig (Elt F) Λ₀ .tc) α} :
    departing m K c ((h, s) :: l) g
      ⊢ iprop((departing m K c l ((h, s) :: g)
            -∗ wp frame (wpE (defs₀ (F := F)) 𝒱₀ (c : Thread nD τ) none) Set.univ k Q)
          -∗ wp frame (wpE (defs₀ (F := F)) 𝒱₀ (c : Thread nD τ) none) Set.univ
              (.op (.waitDma2 (dsem 0 h s) src₀ (xbM.slice (Rect.unit (s := S512x512) off S32x512.size inb) (fun _ => rfl)) hsrc₀ hdst₀) fun _ =>
               .op (.waitDma2 (dsem 2 h s) src₂ (redSlab h) hsrc₂ hdst₂) fun _ => k) Q) := by
  unfold departing
  iintro ⟨#HR, H⟩ Hk
  iapply (departed_block m K c h s l g l g (dst₀ := xbM.slice (Rect.unit (s := S512x512) off S32x512.size inb) (fun _ => rfl))
    (dst₂ := redSlab h) rfl rfl) $$ [H]
  · isplitr; · iexact HR
    iexact H
  iintro H
  iapply Hk
  isplitr <;> iassumption

end Cert.AllReduce

end
-- ==== Proof.Split.lean ====
/-
# Buffers taken apart and put together

The bf16 block into the pieces to scatter and the own rows; the landing buffers into their slabs; the reduced rows into
row blocks; and each of them back.
-/
module

public import proofs.«01_k».proof.Proof.Stages

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A piece held with any contents -/

omit [FloatOps F] in
/-- A piece held with any contents gives its elements in memory. -/
theorem holdAny_pts (c : Dev nD) (M : Memref sig .tc .vmem S32x512 .bf16) :
    holdAny (F := F) c M ⊢ iprop(∃ f, M.view.loc (c : Thread nD τ) ↦[M.view.set]{fullShare} f) := by
  unfold holdAny hold
  iintro ⟨%v, %f, -, H⟩
  iexists f; iexact H
omit [FloatOps F] in
/-- The elements of a piece in memory give the piece held with any contents. -/
theorem pts_holdAny (c : Dev nD) (M : Memref sig .tc .vmem S32x512 .bf16) (f : Buf (Elt F) (M.view.loc (c : Thread nD τ))) :
    (M.view.loc (c : Thread nD τ) ↦[M.view.set]{fullShare} f : sProp 𝕄) ⊢ holdAny c M := by
  unfold holdAny hold
  iintro H
  iexists _; iexists f
  isplitr; · ipureintro; rfl
  iexact H

/-! ## The bf16 block -/

/-- The rows, of device `c`'s bf16 block, that a place stands for. -/
abbrev xbAt (c : Dev nD) (x : Key) : Memref sig .tc .vmem S32x512 .bf16 := xbRows (dstOf c x).1 (dstOf c x).2

/-- Its elements. -/
abbrev xbSet (c : Dev nD) (x : Key) : Finset S512x512.Idx := (xbAt c x).view.set

/-- Different places of the bf16 block share no entry. -/
theorem xbAt_apart (c : Dev nD) (x y : Key) (h : x ≠ y) : Disjoint (xbSet c x) (xbSet c y) := by
  unfold xbSet
  rw [xbRows_set, xbRows_set]; exact rowR_apart fun e => h (dstOf_injective c e)
/-- The places make up the bf16 block. -/
theorem xbAt_all (c : Dev nD) : Finset.univ.biUnion (xbSet c) = Finset.univ := by
  ext i
  simp only [Finset.mem_biUnion, Finset.mem_univ, true_and, iff_true]
  have hi := Finset.mem_univ i
  rw [← rowR_all, Finset.mem_biUnion] at hi
  obtain ⟨p, -, hp⟩ := hi
  obtain ⟨x, rfl⟩ := dstOf_surjective c p
  exact ⟨x, by unfold xbSet; rw [xbRows_set]; exact hp⟩

/-- The bf16 block, once it holds the block of `x`, comes apart into its pieces. -/
theorem xb_split (c : Dev nD) :
    (xbM.view.loc (c : Thread nD τ) ↦{fullShare} xin m c : sProp 𝕄)
      ⊢ bigSep Finset.univ fun x : Key => hold c (xbAt c x) fullShare (piece m c (dstOf c x).1 (dstOf c x).2) := by
  refine (Entails.of_eq (Ring.pointsTo_blocks (ℓ := xbM.view.loc (c : Thread nD τ)) (xbSet c)  (xbAt_apart c) (xbAt_all c) (xin m c))).trans ?_
  have piece_of : ∀ x : Key, (xbM.view.loc (c : Thread nD τ) ↦[(xbAt c x).view.set]{fullShare} xin m c : sProp 𝕄)
      ⊢ hold c (xbAt c x) fullShare (piece m c (dstOf c x).1 (dstOf c x).2) := fun x => by
    unfold hold
    iintro H
    iexists (xin m c)
    isplitr; · ipureintro; rfl
    iexact H
  exact bigSep_mono fun x _ => piece_of x

include m in
/-- Its pieces make it up again. -/
theorem xb_join (c : Dev nD) :
    (bigSep Finset.univ fun x : Key => holdAny (F := F) c (xbAt c x))
      ⊢ (iprop(∃ f, xbM.view.loc (c : Thread nD τ) ↦{fullShare} f) : sProp 𝕄) := by
  exact (bigSep_mono fun x _ => holdAny_pts c _).trans (Ring.pointsTo_blocks_join_exists (ℓ := xbM.view.loc (c : Thread nD τ)) (xbSet c)  (xbAt_apart c) (xbAt_all c) (xin m c))

/-! ## The landing buffers -/

/-- Its elements. -/
abbrev rsSet (p : Fin 4 × Fin 3) : Finset S4x3x32x512.Idx := (rsSlab p.1 p.2).view.set

/-- Different slabs for scattered pieces share no entry. -/
theorem rs_apart (p p' : Fin 4 × Fin 3) (h : p ≠ p') : Disjoint (rsSet p) (rsSet p') := by
  unfold rsSet
  rw [rsSlab_set, rsSlab_set]; exact slabR_apart h
/-- The slabs for scattered pieces make up their buffer. -/
theorem rs_all : Finset.univ.biUnion (rsSet) = Finset.univ :=
  (Finset.biUnion_congr rfl fun p _ => rsSlab_set p.1 p.2).trans slabR_all
/-- Its elements. -/
abbrev agSet (p : Fin 4 × Fin 3) : Finset S4x3x32x512.Idx := (agSlab p.1 p.2).view.set

/-- Different slabs for gathered pieces share no entry. -/
theorem ag_apart (p p' : Fin 4 × Fin 3) (h : p ≠ p') : Disjoint (agSet p) (agSet p') := by
  unfold agSet
  rw [agSlab_set, agSlab_set]; exact slabR_apart h
/-- The slabs for gathered pieces make up their buffer. -/
theorem ag_all : Finset.univ.biUnion (agSet) = Finset.univ :=
  (Finset.biUnion_congr rfl fun p _ => agSlab_set p.1 p.2).trans slabR_all

omit [FloatOps F] in
/-- The first landing buffer comes apart into its slabs, -/
theorem rs_split (c : Dev nD) :
    (iprop(∃ f, rsM.view.loc (c : Thread nD τ) ↦{fullShare} f) : sProp 𝕄)
      ⊢ bigSep Finset.univ fun p : Fin 4 × Fin 3 => holdAny (F := F) c (rsSlab p.1 p.2) := by
  iintro ⟨%f, H⟩
  have split : (rsM.view.loc (c : Thread nD τ) ↦{fullShare} f : sProp 𝕄)
      ⊢ bigSep Finset.univ fun p : Fin 4 × Fin 3 => holdAny (F := F) c (rsSlab p.1 p.2) :=
    (Entails.of_eq (Ring.pointsTo_blocks (ℓ := rsM.view.loc (c : Thread nD τ)) (rsSet) rs_apart rs_all f)).trans (bigSep_mono fun p _ => pts_holdAny c (rsSlab p.1 p.2) f)
  iapply split $$ H

/-- and they make it up again. -/
theorem rs_join (c : Dev nD) (f₀ : Buf (Elt F) (rsM.view.loc (c : Thread nD τ))) :
    (bigSep Finset.univ fun p : Fin 4 × Fin 3 => holdAny (F := F) c (rsSlab p.1 p.2))
      ⊢ (iprop(∃ f, rsM.view.loc (c : Thread nD τ) ↦{fullShare} f) : sProp 𝕄) := by
  exact (bigSep_mono fun p _ => holdAny_pts c _).trans (Ring.pointsTo_blocks_join_exists (ℓ := rsM.view.loc (c : Thread nD τ)) (rsSet) rs_apart rs_all f₀)

omit [FloatOps F] in
/-- So does the second, -/
theorem ag_split (c : Dev nD) :
    (iprop(∃ f, agM.view.loc (c : Thread nD τ) ↦{fullShare} f) : sProp 𝕄)
      ⊢ bigSep Finset.univ fun p : Fin 4 × Fin 3 => holdAny (F := F) c (agSlab p.1 p.2) := by
  iintro ⟨%f, H⟩
  have split : (agM.view.loc (c : Thread nD τ) ↦{fullShare} f : sProp 𝕄)
      ⊢ bigSep Finset.univ fun p : Fin 4 × Fin 3 => holdAny (F := F) c (agSlab p.1 p.2) :=
    (Entails.of_eq (Ring.pointsTo_blocks (ℓ := agM.view.loc (c : Thread nD τ)) (agSet) ag_apart ag_all f)).trans (bigSep_mono fun p _ => pts_holdAny c (agSlab p.1 p.2) f)
  iapply split $$ H

/-- with its own. -/
theorem ag_join (c : Dev nD) (f₀ : Buf (Elt F) (agM.view.loc (c : Thread nD τ))) :
    (bigSep Finset.univ fun p : Fin 4 × Fin 3 => holdAny (F := F) c (agSlab p.1 p.2))
      ⊢ (iprop(∃ f, agM.view.loc (c : Thread nD τ) ↦{fullShare} f) : sProp 𝕄) := by
  exact (bigSep_mono fun p _ => holdAny_pts c _).trans (Ring.pointsTo_blocks_join_exists (ℓ := agM.view.loc (c : Thread nD τ)) (agSet) ag_apart ag_all f₀)

/-! ## The reduced rows -/

/-- Its elements. -/
abbrev redSet (h : Fin 4) : Finset S4x32x512.Idx := (redSlab h).view.set

/-- Different slabs of reduced rows share no entry. -/
theorem red_apart (h h' : Fin 4) (hne : h ≠ h') : Disjoint (redSet h) (redSet h') := by
  unfold redSet
  rw [redSlab_set, redSlab_set]; exact redR_apart hne
/-- The slabs of reduced rows make up their buffer. -/
theorem red_all : Finset.univ.biUnion (redSet) = Finset.univ :=
  (Finset.biUnion_congr rfl fun h _ => redSlab_set h).trans redR_all

omit [FloatOps F] in
/-- The reduced rows come apart into row blocks, -/
theorem red_split (c : Dev nD) :
    (iprop(∃ f, redM.view.loc (c : Thread nD τ) ↦{fullShare} f) : sProp 𝕄)
      ⊢ bigSep Finset.univ fun h : Fin 4 => holdAny (F := F) c (redSlab h) := by
  iintro ⟨%f, H⟩
  have split : (redM.view.loc (c : Thread nD τ) ↦{fullShare} f : sProp 𝕄)
      ⊢ bigSep Finset.univ fun p : Fin 4 => holdAny (F := F) c (redSlab p) :=
    (Entails.of_eq (Ring.pointsTo_blocks (ℓ := redM.view.loc (c : Thread nD τ)) (redSet) red_apart red_all f)).trans (bigSep_mono fun p _ => pts_holdAny c (redSlab p) f)
  iapply split $$ H

/-- and the row blocks make them up again. -/
theorem red_join (c : Dev nD) (f₀ : Buf (Elt F) (redM.view.loc (c : Thread nD τ))) :
    (bigSep Finset.univ fun h : Fin 4 => holdAny (F := F) c (redSlab h))
      ⊢ (iprop(∃ f, redM.view.loc (c : Thread nD τ) ↦{fullShare} f) : sProp 𝕄) := by
  exact (bigSep_mono fun h _ => holdAny_pts c _).trans (Ring.pointsTo_blocks_join_exists (ℓ := redM.view.loc (c : Thread nD τ)) (redSet) red_apart red_all f₀)

/-- Two holds on the same piece that read the same hold the same contents there. -/
theorem read_eq_on {sp : Space} {s : Shape} {e : EltTy} (V : View sig .tc sp s e) {f g : V.ref.ty.Contents (Elt F)}
    (h : V.read (Elt F) f = V.read (Elt F) g) : ∀ i ∈ V.set, f i = g i := by
  intro i hi
  obtain ⟨x, -, rfl⟩ := Finset.mem_map.mp hi
  have hx := congrFun h x
  rw [View.read_apply, View.read_apply] at hx
  exact (cast_inj _).mp hx

/-- The three thirds of a row block's hold make it whole again. -/
theorem thirds_hold (c : Dev nD) (h : Fin 4) :
    (bigSep Finset.univ fun s : Fin 3 => third m c (h, s)) ⊢ holdAny c (redSlab h) := by
  rw [bigSep_univ_eq_bigSepL [(0 : Fin 3), 1, 2] (by decide) (by decide), bigSepL_cons', bigSepL_cons', bigSepL_singleton]
  unfold third hold
  iintro ⟨⟨%f, %hf, H0⟩, ⟨%g, %hg, H1⟩, ⟨%k, %hk, H2⟩⟩
  have same : ∀ (q : PosShare TreeShare) {g : Buf (Elt F) ((redSlab h).view.loc (c : Thread nD τ))},
      (redSlab h).view.read (Elt F) g = redBf m c h →
      ((redSlab h).view.loc (c : Thread nD τ) ↦[(redSlab h).view.set]{q} g : sProp 𝕄)
        ⊢ ((redSlab h).view.loc (c : Thread nD τ) ↦[(redSlab h).view.set]{q} f) := fun q g hg =>
    Entails.of_eq (pointsTo_congr (ℓ := (redSlab h).view.loc (c : Thread nD τ)) (I := (redSlab h).view.set)
      (read_eq_on (redSlab h).view (hg.trans hf.symm)))
  ihave H1 := (same _ hg) $$ H1
  ihave H2 := (same _ hk) $$ H2
  iapply (pts_holdAny c (redSlab h) f)
  iapply (Ring.pointsTo_thirds fullShare f).2
  isplitl [H0]; · iexact H0
  isplitl [H1] <;> iassumption

end Cert.AllReduce

end
-- ==== Proof.Body.lean ====
/-
# The kernel's body on one device

From what the launch hands a device to what it leaves: the barrier, the cast, and the four stages, step by step as the
kernel has them.
-/
module

public import proofs.«01_k».proof.Proof.Split

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cid → ℕ)

/-! ## Before and after -/

/-- The order in which the arrivals of either exchange are waited for. -/
abbrev recvOrd : List (Fin 4 × Fin 3) :=
  [(0, 2), (0, 0), (0, 1), (1, 2), (1, 0), (1, 1), (2, 2), (2, 0), (2, 1), (3, 2), (3, 0), (3, 1)]
/-- The order in which the departures of either exchange are waited for. -/
abbrev departOrd : List (Fin 4 × Fin 3) :=
  [(0, 2), (0, 1), (0, 0), (1, 2), (1, 1), (1, 0), (2, 2), (2, 1), (2, 0), (3, 2), (3, 1), (3, 0)]
/-- The order in which the pieces of the result are put in place. -/
abbrev gatherOrd : List Key :=
  [.inr (0, 2), .inr (0, 0), .inr (0, 1), .inr (1, 2), .inr (1, 0), .inr (1, 1), .inr (2, 2), .inr (2, 0), .inr (2, 1),
    .inr (3, 2), .inr (3, 0), .inr (3, 1)]
/-- The order in which all pieces of the result are put in place: the device's own, then those gathered. -/
abbrev outOrd : List Key := .inl 0 :: .inl 1 :: .inl 2 :: .inl 3 :: gatherOrd

/-- The tokens of one copy: those of the duties at its two ends, and the place at its departure. -/
def tokens (c : Dev nD) (f₁ f₂ : Fin 4) (p : Fin 4 × Fin 3) : sProp 𝕄 :=
  iprop(dutyTok ER (cell c f₁ p.1 p.2) 0 0 ∗ dutyTok ER (cell (dn p.2 c) f₂ p.1 p.2) 0 0 ∗ atPos ER (cell c f₁ p.1 p.2) 0 ∅ 0)

/-- What goes with barrier signal `d`: its token and the device's own landing slabs of the mirrored slot. -/
def signal (c : Dev nD) (d : Fin 3) : sProp 𝕄 :=
  iprop(dutyTok ER (dueCell c (.inl d)) 0 d
    ∗ bigSep Finset.univ fun h : Fin 4 => iprop(holdAny (F := F) c (rsSlab h d.rev) ∗ holdAny c (agSlab h d.rev)))

/-- What a device starts the body with. -/
def entry (c : Dev nD) : sProp 𝕄 :=
  iprop(records m K ∗ owing c payOrd ∗ (cred (tallyAt (barCell c) () 3) ∗ atPos ER (barCell c) 0 ∅ 0)
    ∗ bigSepL [(2 : Fin 3), 1, 0] (signal (F := F) c)
    ∗ inHeld m c ∗ (∃ f, xbM.view.loc (c : Thread nD τ) ↦{fullShare} f) ∗ outHeld m c outOrd
    ∗ bigSepL [(0 : Fin 4), 1, 2, 3] (fun h => holdAny c (redSlab h))
    ∗ bigSepL recvOrd (waiting c 1) ∗ bigSepL recvOrd (waiting c 3)
    ∗ bigSepL sendOrd (tokens c 0 1) ∗ bigSepL sendOrd (tokens c 2 3))

/-- What it ends it with. -/
def exit (c : Dev nD) : sProp 𝕄 :=
  iprop(owing c [] ∗ inHeld m c ∗ outHeld m c [] ∗ semVal (barCell c) 0
    ∗ bigSep Finset.univ (landed m c 0) ∗ bigSep Finset.univ (landed m c 1)
    ∗ bigSep Finset.univ (landed m c 2) ∗ bigSep Finset.univ (landed m c 3)
    ∗ bigSep Finset.univ fun h : Fin 4 => holdAny c (xbRows c h))

/-! ## The cast -/

omit [FloatOps F] in
/-- The whole block begins at row and column zero. -/
theorem origin : (![0, 0] : Fin 2 → ℕ) = fun _ => 0 := funext fun a => by fin_cases a <;> rfl

/-- The block of `x` goes into the bf16 block, which it fills, as it is. -/
theorem cast_block (c : Dev nD) {inb : ∀ a, (![0, 0] : Fin 2 → ℕ) a + S512x512.size a ≤ S512x512.size a}
    {hl : inM.view.LoadsAt (Rect.unit (s := S512x512) ![0, 0] S512x512.size inb).toLoadRect}
    {hl' : xbM.view.LoadsAt (Rect.unit (s := S512x512) ![0, 0] S512x512.size inb).toLoadRect}
    {hs : (xbM.access (Rect.unit (s := S512x512) ![0, 0] S512x512.size inb)).Stores Finset.univ} {hm}
    {pay : Vec F S512x512 .bf16 → Vec F S512x512 .bf16} (hpay : ∀ v, pay v = v)
    {α : Type} {Q : α → sProp 𝕄} {k : Vec F S512x512 .bf16 → Prog (TpuEff nD τ sig (Elt F) Λ₀ .tc) α} :
    iprop(inHeld m c ∗ (∃ f, xbM.view.loc (c : Thread nD τ) ↦{fullShare} f))
      ⊢ iprop((∀ v, (inHeld m c ∗ (xbM.view.loc (c : Thread nD τ) ↦{fullShare} xin m c))
            -∗ wp frame (wpE (defs₀ (F := F)) 𝒱₀ (c : Thread nD τ) none) Set.univ (k v) Q)
          -∗ wp frame (wpE (defs₀ (F := F)) 𝒱₀ (c : Thread nD τ) none) Set.univ
              (.op (.load inM (Rect.unit (s := S512x512) ![0, 0] S512x512.size inb).toLoadRect hl) fun v =>
               .op (.load xbM (Rect.unit (s := S512x512) ![0, 0] S512x512.size inb).toLoadRect hl') fun _ =>
               .op (.store xbM (Rect.unit (s := S512x512) ![0, 0] S512x512.size inb) (pay v) Finset.univ hs hm) fun _ => k v) Q) := by
  unfold inHeld
  iintro ⟨Hx, %f, Hb⟩ Hk
  iapply (wp_load 𝒱₀ (c : Thread nD τ) none Set.univ (m := inM) (S := Finset.univ) (Finset.subset_univ _)) $$ Hx
  iintro Hx
  iapply (wp_load 𝒱₀ (c : Thread nD τ) none Set.univ (m := xbM) (S := Finset.univ) (Finset.subset_univ _)) $$ Hb
  iintro Hb
  iapply (wp_store 𝒱₀ (c : Thread nD τ) none Set.univ (m := xbM)
    (r := Rect.unit (s := S512x512) ![0, 0] S512x512.size inb) (Mk := Finset.univ) (Finset.subset_univ _)) $$ Hb
  iintro Hb
  iapply Hk $$ [Hx Hb]
  isplitl [Hx]; · iexact Hx
  have hr : View.readAt (Elt F) inM.view (Rect.unit (s := S512x512) ![0, 0] S512x512.size inb).toLoadRect (xin m c) = xin m c :=
    Memref.readAt_unit_zero (Elt F) cc0_stg0_0 origin inb (xin m c)
  have hw : (xbM.access (Rect.unit (s := S512x512) ![0, 0] S512x512.size inb)).write (Elt F) f (xin m c) Finset.univ = xin m c :=
    Memref.write_access_unit_zero_univ (Elt F) cc0_scratch0 origin inb f (xin m c)
  rw [hpay, hr, hw]
  iexact Hb

/-! ## Ready to send -/

/-- Up by the mirrored slot is down by the slot. -/
theorem up_rev (s : Fin 3) (c : Dev nD) : up s.rev c = dn s c := by revert s c; decide

/-- With the slabs that the barrier brings, the tokens, and the pieces to scatter, a device is ready to send. -/
theorem ready_all (c : Dev nD) :
    iprop(bigSep Finset.univ (barPay (F := F) c) ∗ (xbM.view.loc (c : Thread nD τ) ↦{fullShare} xin m c)
        ∗ bigSepL sendOrd (tokens c 0 1) ∗ bigSepL sendOrd (tokens c 2 3))
      ⊢ iprop(bigSepL sendOrd (toScatter m c) ∗ bigSepL sendOrd (toGather c)
        ∗ bigSep Finset.univ fun h : Fin 4 => holdAny (F := F) c (xbRows c h)) := by
  have slabs : bigSep Finset.univ (barPay (F := F) c)
      = bigSep Finset.univ fun p : Fin 4 × Fin 3 =>
        iprop(holdAny (F := F) (dn p.2 c) (rsSlab p.1 p.2) ∗ holdAny (F := F) (dn p.2 c) (agSlab p.1 p.2)) := by
    rw [bigSep_univ_equiv Fin.revPerm, bigSep_univ_equiv (Equiv.prodComm (Fin 3) (Fin 4)), bigSep_univ_prod]
    refine bigSep_congr fun s _ => ?_
    unfold barPay
    rw [Fin.revPerm_apply, Fin.rev_rev, up_rev]
    rfl
  rw [slabs, bigSep_sep']
  simp only [← bigSep_univ_eq_bigSepL sendOrd (by decide) (by decide)]
  iintro ⟨⟨Hr, Ha⟩, Hx, H1, H2⟩
  have parts : bigSep Finset.univ (fun x : Key => hold c (xbAt c x) fullShare (piece m c (dstOf c x).1 (dstOf c x).2))
      ⊢ iprop((bigSep Finset.univ fun h : Fin 4 => hold c (xbAt c (.inl h)) fullShare (piece m c (dstOf c (.inl h)).1 (dstOf c (.inl h)).2))
        ∗ bigSep Finset.univ fun p : Fin 4 × Fin 3 => hold c (xbRows (dn p.2 c) p.1) fullShare (piece m c (dn p.2 c) p.1)) :=
    Entails.of_eq (bigSep_univ_sum _)
  ihave Hx := (xb_split m c) $$ Hx
  ihave Hx := parts $$ Hx
  icases Hx with ⟨Ho, Hx⟩
  isplitl [Hx Hr H1]
  · unfold toScatter ready tokens
    simp only [bigSep_sep']
    icases H1 with ⟨H1, H1', H1''⟩
    isplitl [Hx]; · iexact Hx
    isplitl [Hr]; · iexact Hr
    isplitl [H1]; · iexact H1
    isplitl [H1'] <;> iassumption
  isplitl [Ha H2]
  · unfold toGather ready tokens
    simp only [bigSep_sep']
    icases H2 with ⟨H2, H2', H2''⟩
    isplitl [Ha]; · iexact Ha
    isplitl [H2]; · iexact H2
    isplitl [H2'] <;> iassumption
  have any : bigSep Finset.univ (fun h : Fin 4 => hold c (xbAt c (.inl h)) fullShare (piece m c (dstOf c (.inl h)).1 (dstOf c (.inl h)).2))
      ⊢ bigSep Finset.univ fun h : Fin 4 => holdAny (F := F) c (xbRows c h) := by
    have one : ∀ h : Fin 4, hold c (xbRows c h) fullShare (piece m c c h) ⊢ holdAny (F := F) c (xbRows c h) := fun h => by
      unfold holdAny
      iintro H
      iexists _
      iexact H
    exact bigSep_mono fun h _ => one h
  iapply any
  iexact Ho

/-! ## What the body computes between its loads and stores -/

omit [FloatOps F] in
/-- The block of `x` is stored as it was loaded. -/
theorem kept (v : Vec F S512x512 .bf16) : k0_pay1 v = v := by
  simp only [k0_pay1, shapeCast_self]

/-- The four terms of a row block, added one after the other: in one sum when the first two are at hand, -/
theorem added (v : Vec F S32x512 .bf16) (w₂ w₀ w₁ : Vec F S1x1x32x512 .bf16) :
    k0_pay3 (k0_pay2 v w₂) w₀ w₁ = sum4 v (shapeCast S32x512 w₂ shapeCasts_S1x1x32x512_S32x512)
      (shapeCast S32x512 w₀ shapeCasts_S1x1x32x512_S32x512) (shapeCast S32x512 w₁ shapeCasts_S1x1x32x512_S32x512) := by
  simp only [k0_pay2, k0_pay3, shapeCast_self]; rfl

/-- and in another when the first three are. -/
theorem added' (v : Vec F S32x512 .bf16) (w₂ w₀ w₁ : Vec F S1x1x32x512 .bf16) :
    k0_pay10 (k0_pay9 (k0_pay8 v) w₂ w₀) w₁ = sum4 v (shapeCast S32x512 w₂ shapeCasts_S1x1x32x512_S32x512)
      (shapeCast S32x512 w₀ shapeCasts_S1x1x32x512_S32x512) (shapeCast S32x512 w₁ shapeCasts_S1x1x32x512_S32x512) := by
  simp only [k0_pay8, k0_pay9, k0_pay10, shapeCast_self]; rfl

/-- Equal sums are stored alike: rounded to bf16 and laid out as a slab. -/
theorem stored {a b : FVec F S32x512 .f32} (h : a = b) :
    shapeCast S1x32x512 (truncf .bf16 a bitsLt_bf16_f32) shapeCasts_S32x512_S1x32x512
      = shapeCast S1x32x512 (truncf .bf16 b bitsLt_bf16_f32) shapeCasts_S32x512_S1x32x512 := by
  rw [h]

/-! ## The body -/

/-- The departures wait in the order in which they are sent, the last first; they are waited for in another. -/
theorem reordered (c : Dev nD) (f : Fin 4) :
    bigSepL sendOrd.reverse (waiting (F := F) c f) ⊢ bigSepL departOrd (waiting (F := F) c f) :=
  Entails.of_eq ((bigSep_univ_eq_bigSepL sendOrd.reverse (by decide) (by decide) _).symm.trans
    (bigSep_univ_eq_bigSepL departOrd (by decide) (by decide) _))

/-- A due yet to be paid by a copy stands after the barrier. -/
theorem copies_above : ∀ x ∈ scattered ++ gathered, 1 < rank (semOf x) := by decide

set_option maxHeartbeats 4000000 in
set_option maxRecDepth 8000 in
/-- The body, run from `entry` to `exit`. -/
theorem body_run (c : Dev nD) {Q : PUnit → sProp 𝕄} :
    iprop(entry m K c ∗ (exit m c -∗ Q ⟨⟩))
      ⊢ wp frame (wpE (defs₀ (F := F)) 𝒱₀ (c : Thread nD τ) none) Set.univ
        (cc0_body inM (Memref.isWhole_whole _) outM (Memref.isWhole_whole _) xbM (Memref.isWhole_whole _)
          redM (Memref.isWhole_whole _) rsM (Memref.isWhole_whole _) agM (Memref.isWhole_whole _)
          cc0_scratch4 cc0_scratch5 cc0_scratch6 cc0_scratch7) Q := by
  rw [cc0_body_eq_skeleton]
  unfold cc0_body_skel entry
  rw [bigSepL_cons', bigSepL_cons', bigSepL_singleton]
  unfold signal
  iintro ⟨⟨#HR, HO, Hbar, ⟨⟨Ht2, Hs2⟩, ⟨Ht1, Hs1⟩, ⟨Ht0, Hs0⟩⟩, Hx, Hxb, Hout, Hred, Hw1, Hw3, Htk1, Htk2⟩, HQ⟩
  simp only [k0_part1_eq_skeleton, k0_part1_skel, k0_part2_eq_skeleton, k0_part2_skel, semSignalWord, semWaitWord,
    Prog.lift, Prog.bind_op, Prog.bind_ret, Prog.pure_eq_ret, wp_deviceId]
  iapply (signal_step m K c _ 2 (dev_1 c) _ rfl) $$ [HO Ht2 Hs2]
  · isplitr; · iexact HR
    isplitl [HO]; · iexact HO
    isplitl [Ht2] <;> iassumption
  iintro HO
  iapply (signal_step m K c _ 1 (dev_2 c) _ rfl) $$ [HO Ht1 Hs1]
  · isplitr; · iexact HR
    isplitl [HO]; · iexact HO
    isplitl [Ht1] <;> iassumption
  iintro HO
  iapply (signal_step m K c _ 0 (dev_3 c) _ rfl) $$ [HO Ht0 Hs0]
  · isplitr; · iexact HR
    isplitl [HO]; · iexact HO
    isplitl [Ht0] <;> iassumption
  iintro HO
  iapply (barrier_step m K c (scattered ++ gathered) copies_above rfl) $$ [HO Hbar]
  · isplitr; · iexact HR
    isplitl [HO]; · iexact HO
    iexact Hbar
  iintro ⟨HO, Hbz, Hslabs⟩
  iapply (cast_block m c kept) $$ [Hx Hxb]
  · isplitl [Hx] <;> iassumption
  iintro %v ⟨Hx, Hxb⟩
  ihave Hready := (ready_all m c) $$ [Hslabs Hxb Htk1 Htk2]
  · isplitl [Hslabs]; · iexact Hslabs
    isplitl [Hxb]; · iexact Hxb
    isplitl [Htk1] <;> iassumption
  icases Hready with ⟨Hsc, Hga, Hown⟩
  -- The pieces are scattered.
  ihave H : scattering m K c sendOrd [] $$ [HO Hsc]
  · unfold scattering
    isplitr; · iexact HR
    isplitl [HO]; · iexact HO
    isplitl [Hsc]; · iexact Hsc
    rw [bigSepL_nil]; iempintro
  simp only [k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton,
    k0_part11_skel, semSignalWord, semWaitWord, Prog.lift, Prog.bind_op, Prog.bind_ret, Prog.pure_eq_ret,
    wp_deviceId]
  iapply (scatter m K c _ 0 1 (dev_2 c) _ _ (off1_dn c 1 0)) $$ H; iintro H
  iapply (scatter m K c _ 0 2 (dev_1 c) _ _ (off1_dn c 2 0)) $$ H; iintro H
  iapply (scatter m K c _ 0 0 (dev_3 c) _ _ (off1_dn c 0 0)) $$ H; iintro H
  iapply (scatter m K c _ 1 1 (dev_2 c) _ _ (off1_dn c 1 1)) $$ H; iintro H
  iapply (scatter m K c _ 1 2 (dev_1 c) _ _ (off1_dn c 2 1)) $$ H; iintro H
  iapply (scatter m K c _ 1 0 (dev_3 c) _ _ (off1_dn c 0 1)) $$ H; iintro H
  iapply (scatter m K c _ 2 1 (dev_2 c) _ _ (off1_dn c 1 2)) $$ H; iintro H
  iapply (scatter m K c _ 2 2 (dev_1 c) _ _ (off1_dn c 2 2)) $$ H; iintro H
  iapply (scatter m K c _ 2 0 (dev_3 c) _ _ (off1_dn c 0 2)) $$ H; iintro H
  iapply (scatter m K c _ 3 1 (dev_2 c) _ _ (off1_dn c 1 3)) $$ H; iintro H
  iapply (scatter m K c _ 3 2 (dev_1 c) _ _ (off1_dn c 2 3)) $$ H; iintro H
  iapply (scatter m K c _ 3 0 (dev_3 c) _ _ (off1_dn c 0 3)) $$ H; iintro H
  unfold scattering
  icases H with ⟨-, HO, -, Hd0⟩
  -- Each row block is added up, passed on, and the own rows put in place.
  ihave H : reducing m K c [0, 1, 2, 3] recvOrd [] [] sendOrd [] outOrd $$ [HO Hx Hw1 Hred Hga Hout]
  · unfold reducing
    isplitr; · iexact HR
    isplitl [HO]; · iexact HO
    isplitl [Hx]; · iexact Hx
    isplitl [Hw1]; · iexact Hw1
    isplitr; · rw [bigSepL_nil]; iempintro
    isplitl [Hred]; · iexact Hred
    isplitr; · rw [bigSepL_nil]; iempintro
    isplitl [Hga]; · iexact Hga
    isplitr; · rw [bigSepL_nil]; iempintro
    iexact Hout
  simp only [k0_part12_eq_skeleton, k0_part12_skel, k0_part13_eq_skeleton, k0_part13_skel, k0_part14_eq_skeleton,
    k0_part14_skel, semSignalWord, semWaitWord, Prog.lift, Prog.bind_op, Prog.bind_ret, Prog.pure_eq_ret,
    wp_deviceId]
  iapply (reduce m K c 0 _ _ _ _ _ _ (off2_eq c 0) (fun v w₂ w₀ w₁ => stored (added v w₂ w₀ w₁))) $$ H; iintro %w₂ %w₀ %w₁ %sum H
  iapply (pass m K c _ 0 1 (dev_2 c) _ _ _ _ _ _ _) $$ H; iintro H
  iapply (pass m K c _ 0 2 (dev_1 c) _ _ _ _ _ _ _) $$ H; iintro H
  iapply (pass m K c _ 0 0 (dev_3 c) _ _ _ _ _ _ _) $$ H; iintro H
  iapply (place_own m K c 0 _ _ _ _ _ _ _ (off2_eq c 0) ((added _ _ _ _).trans sum)) $$ H; iintro H
  clear sum
  simp only [k0_part15_eq_skeleton, k0_part15_skel, k0_part16_eq_skeleton, k0_part16_skel, k0_part17_eq_skeleton,
    k0_part17_skel, k0_part18_eq_skeleton, k0_part18_skel, semSignalWord, semWaitWord, Prog.lift, Prog.bind_op,
    Prog.bind_ret, Prog.pure_eq_ret, wp_deviceId]
  iapply (reduce m K c 1 _ _ _ _ _ _ (off2_eq c 1) (fun v w₂ w₀ w₁ => stored (added v w₂ w₀ w₁))) $$ H; iintro %w₂ %w₀ %w₁ %sum H
  iapply (pass m K c _ 1 1 (dev_2 c) _ _ _ _ _ _ _) $$ H; iintro H
  iapply (pass m K c _ 1 2 (dev_1 c) _ _ _ _ _ _ _) $$ H; iintro H
  iapply (pass m K c _ 1 0 (dev_3 c) _ _ _ _ _ _ _) $$ H; iintro H
  iapply (place_own m K c 1 _ _ _ _ _ _ _ (off2_eq c 1) ((added _ _ _ _).trans sum)) $$ H; iintro H
  clear sum
  simp only [k0_part19_eq_skeleton, k0_part19_skel, k0_part20_eq_skeleton, k0_part20_skel, k0_part21_eq_skeleton,
    k0_part21_skel, k0_part22_eq_skeleton, k0_part22_skel, semSignalWord, semWaitWord, Prog.lift, Prog.bind_op,
    Prog.bind_ret, Prog.pure_eq_ret, wp_deviceId]
  iapply (reduce m K c 2 _ _ _ _ _ _ (off2_eq c 2) (fun v w₂ w₀ w₁ => stored (added' v w₂ w₀ w₁))) $$ H; iintro %w₂ %w₀ %w₁ %sum H
  iapply (pass m K c _ 2 1 (dev_2 c) _ _ _ _ _ _ _) $$ H; iintro H
  iapply (pass m K c _ 2 2 (dev_1 c) _ _ _ _ _ _ _) $$ H; iintro H
  iapply (pass m K c _ 2 0 (dev_3 c) _ _ _ _ _ _ _) $$ H; iintro H
  iapply (place_own m K c 2 _ _ _ _ _ _ _ (off2_eq c 2) ((added' _ _ _ _).trans sum)) $$ H; iintro H
  clear sum
  simp only [k0_part23_eq_skeleton, k0_part23_skel, k0_part24_eq_skeleton, k0_part24_skel, k0_part25_eq_skeleton,
    k0_part25_skel, k0_part26_eq_skeleton, k0_part26_skel, semSignalWord, semWaitWord, Prog.lift, Prog.bind_op,
    Prog.bind_ret, Prog.pure_eq_ret, wp_deviceId]
  iapply (reduce m K c 3 _ _ _ _ _ _ (off2_eq c 3) (fun v w₂ w₀ w₁ => stored (added' v w₂ w₀ w₁))) $$ H; iintro %w₂ %w₀ %w₁ %sum H
  iapply (pass m K c _ 3 1 (dev_2 c) _ _ _ _ _ _ _) $$ H; iintro H
  iapply (pass m K c _ 3 2 (dev_1 c) _ _ _ _ _ _ _) $$ H; iintro H
  iapply (pass m K c _ 3 0 (dev_3 c) _ _ _ _ _ _ _) $$ H; iintro H
  iapply (place_own m K c 3 _ _ _ _ _ _ _ (off2_eq c 3) ((added' _ _ _ _).trans sum)) $$ H; iintro H
  clear sum
  unfold reducing
  icases H with ⟨-, HO, Hx, -, Hl1, -, -, -, Hd2, Hout⟩
  -- The gathered rows are put in place.
  ihave H : placing m K c recvOrd [] gatherOrd $$ [HO Hw3 Hout]
  · unfold placing
    isplitr; · iexact HR
    isplitl [HO]; · iexact HO
    isplitl [Hw3]; · iexact Hw3
    isplitr; · rw [bigSepL_nil]; iempintro
    iexact Hout
  simp only [k0_part27_eq_skeleton, k0_part27_skel, k0_part28_eq_skeleton, k0_part28_skel, k0_part29_eq_skeleton,
    k0_part29_skel, k0_part30_eq_skeleton, k0_part30_skel, k0_part31_eq_skeleton, k0_part31_skel,
    k0_part32_eq_skeleton, k0_part32_skel, k0_part33_eq_skeleton, k0_part33_skel, k0_part34_eq_skeleton,
    k0_part34_skel, k0_part35_eq_skeleton, k0_part35_skel, k0_part36_eq_skeleton, k0_part36_skel,
    k0_part37_eq_skeleton, k0_part37_skel, semSignalWord, semWaitWord, Prog.lift, Prog.bind_op, Prog.bind_ret,
    Prog.pure_eq_ret, wp_deviceId]
  iapply (place m K c 0 2 _ _ _ (off3_up c 2 0) (fun _ => rfl)) $$ H; iintro %_ H
  iapply (place m K c 0 0 _ _ _ (off3_up c 0 0) (fun _ => rfl)) $$ H; iintro %_ H
  iapply (place m K c 0 1 _ _ _ (off3_up c 1 0) (fun _ => rfl)) $$ H; iintro %_ H
  iapply (place m K c 1 2 _ _ _ (off3_up c 2 1) (fun _ => rfl)) $$ H; iintro %_ H
  iapply (place m K c 1 0 _ _ _ (off3_up c 0 1) (fun _ => rfl)) $$ H; iintro %_ H
  iapply (place m K c 1 1 _ _ _ (off3_up c 1 1) (fun _ => rfl)) $$ H; iintro %_ H
  iapply (place m K c 2 2 _ _ _ (off3_up c 2 2) (fun _ => rfl)) $$ H; iintro %_ H
  iapply (place m K c 2 0 _ _ _ (off3_up c 0 2) (fun _ => rfl)) $$ H; iintro %_ H
  iapply (place m K c 2 1 _ _ _ (off3_up c 1 2) (fun _ => rfl)) $$ H; iintro %_ H
  iapply (place m K c 3 2 _ _ _ (off3_up c 2 3) (fun _ => rfl)) $$ H; iintro %_ H
  iapply (place m K c 3 0 _ _ _ (off3_up c 0 3) (fun _ => rfl)) $$ H; iintro %_ H
  iapply (place m K c 3 1 _ _ _ (off3_up c 1 3) (fun _ => rfl)) $$ H; iintro %_ H
  unfold placing
  icases H with ⟨-, HO, -, Hl3, Hout⟩
  -- The departures are waited for.
  ihave H : departing m K c departOrd [] $$ [HO Hd0 Hd2]
  · unfold departing
    isplitr; · iexact HR
    isplitl [HO]; · iexact HO
    isplitl [Hd0]; · iapply (reordered c 0); iexact Hd0
    isplitr; · rw [bigSepL_nil]; iempintro
    isplitl [Hd2]; · iapply (reordered c 2); iexact Hd2
    rw [bigSepL_nil]; iempintro
  simp only [k0_part38_eq_skeleton, k0_part38_skel, k0_part39_eq_skeleton, k0_part39_skel, k0_part40_eq_skeleton,
    k0_part40_skel, k0_part41_eq_skeleton, k0_part41_skel, k0_part42_eq_skeleton, k0_part42_skel,
    k0_part43_eq_skeleton, k0_part43_skel, k0_part44_eq_skeleton, k0_part44_skel, semSignalWord, semWaitWord,
    Prog.lift, Prog.bind_op, Prog.bind_ret, Prog.pure_eq_ret, wp_deviceId]
  iapply (depart m K c 0 2 _ _) $$ H; iintro H
  iapply (depart m K c 0 1 _ _) $$ H; iintro H
  iapply (depart m K c 0 0 _ _) $$ H; iintro H
  iapply (depart m K c 1 2 _ _) $$ H; iintro H
  iapply (depart m K c 1 1 _ _) $$ H; iintro H
  iapply (depart m K c 1 0 _ _) $$ H; iintro H
  iapply (depart m K c 2 2 _ _) $$ H; iintro H
  iapply (depart m K c 2 1 _ _) $$ H; iintro H
  iapply (depart m K c 2 0 _ _) $$ H; iintro H
  iapply (depart m K c 3 2 _ _) $$ H; iintro H
  iapply (depart m K c 3 1 _ _) $$ H; iintro H
  iapply (depart m K c 3 0 _ _) $$ H; iintro H
  unfold departing
  icases H with ⟨-, HO, -, Hl0, -, Hl2⟩
  rw [wp_ret]; imodintro
  iapply HQ
  unfold exit
  isplitl [HO]; · iexact HO
  isplitl [Hx]; · iexact Hx
  isplitl [Hout]; · iexact Hout
  isplitl [Hbz]; · iexact Hbz
  rw [bigSep_univ_eq_bigSepL departOrd.reverse (by decide) (by decide) (landed m c 0),
    bigSep_univ_eq_bigSepL recvOrd.reverse (by decide) (by decide) (landed m c 1),
    bigSep_univ_eq_bigSepL departOrd.reverse (by decide) (by decide) (landed m c 2),
    bigSep_univ_eq_bigSepL recvOrd.reverse (by decide) (by decide) (landed m c 3)]
  isplitl [Hl0]; · iexact Hl0
  isplitl [Hl1]; · iexact Hl1
  isplitl [Hl2]; · iexact Hl2
  isplitl [Hl3]; · iexact Hl3
  iexact Hown

end Cert.AllReduce

end
-- ==== Proof.Ghost.lean ====
/-
# What the launch deals

The ghost state of the protocol: every cell's round, the places at them, and the tokens of the dues, minted cell by cell
and then dealt to the devices that pay them.
-/
module

public import proofs.«01_k».proof.Proof.Split

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- Different cells of a device have different semaphores. -/
theorem cidSem_injective : Function.Injective cidSem := by
  rintro (_ | ⟨f, h, s⟩) (_ | ⟨f', h', s'⟩) e
  · rfl
  · exact absurd e (by simp)
  · exact absurd e (by simp)
  · have e' : dsem f h s = dsem f' h' s' := SemLoc.dma.inj e
    have h1 := congrArg famOf e'
    have h2 := congrArg blkOf e'
    have h3 := congrArg slotOf e'
    rw [famOf_dsem, famOf_dsem] at h1
    rw [blkOf_dsem, blkOf_dsem] at h2
    rw [slotOf_dsem, slotOf_dsem] at h3
    subst h1 h2 h3; rfl

/-- Different devices and cells give different semaphores of the mesh. -/
theorem kcell_injective : Function.Injective kcell := by
  rintro ⟨c, i⟩ ⟨c', i'⟩ e
  have h1 : c = c' := congrArg (fun g : GSem nD τ sig => g.1.1) e
  have h2 : i = i' := cidSem_injective (congrArg Prod.snd e)
  rw [h1, h2]

/-- A due is told by its cell and its number there. -/
abbrev mintOf (p : Dev nD × Due) : GSem nD τ sig × ℕ × Fin 3 := (kcell (p.1, cidOf p.2), 0, numOf p.2)

/-- Different devices and dues give different tokens. -/
theorem mintOf_injective : Function.Injective mintOf := by
  rintro ⟨c, x⟩ ⟨c', x'⟩ e
  have h1 := kcell_injective (congrArg Prod.fst e)
  have h2 : numOf x = numOf x' := congrArg (fun t : GSem nD τ sig × ℕ × Fin 3 => t.2.2) e
  obtain ⟨h3, h4⟩ := Prod.mk.inj h1
  subst h3
  rcases x with d | k <;> rcases x' with d' | k'
  · rw [show d = d' from h2]
  · cases h4
  · cases h4
  · rw [show k = k' from Sum.inr.inj h4]

/-- All cells of the mesh. -/
def allCells : Finset (GSem nD τ sig) := Finset.univ.map ⟨kcell, kcell_injective⟩
/-- The tokens of all dues of the mesh. -/
def allToks : Finset (GSem nD τ sig × ℕ × Fin 3) := Finset.univ.map ⟨mintOf, mintOf_injective⟩

/-- The ghost state the launch starts with: the pipeline's and the protocol's. -/
def u₀ : UU := (initOf (Pipeline.cells cfgs cellOf_inj) (Pipeline.launchToks cfgs cellOf_inj), initOf allCells allToks)

/-- What is minted at device `c`'s cells. -/
def minted (c : Dev nD) : sProp 𝕄 :=
  iprop((bigSep Finset.univ fun i : Cid => roundState ER (Rd m) (kcell (c, i)) 0)
    ∗ (bigSep Finset.univ fun i : Cid => iprop(atPos ER (kcell (c, i)) 0 ∅ 0 ∗ reached ER (kcell (c, i)) 0))
    ∗ bigSep Finset.univ fun x : Due => dutyTok ER (kcell (c, cidOf x)) 0 (numOf x))

/-- What device `c` gets in the end: the places at its own cells, and the tokens of the dues it pays. -/
def dealt (c : Dev nD) : sProp 𝕄 :=
  iprop((bigSep Finset.univ fun i : Cid => atPos ER (kcell (c, i)) 0 ∅ 0)
    ∗ bigSep Finset.univ fun x : Due => dutyTok ER (dueCell c x) 0 (numOf x))

/-- What all devices share, but for the order of waiting. -/
def shared (K : Dev nD × Cid → ℕ) : sProp 𝕄 :=
  iprop((bigSep Finset.univ fun p : Dev nD × Cid => cellInv ER (Rd m) (K p) (kcell p))
    ∗ bigSep Finset.univ fun p : Dev nD × Cid => reached ER (kcell p) 0)

/-- What is shared may be used any number of times. -/
instance shared_persistent (K : Dev nD × Cid → ℕ) : BI.Persistent (shared m K) := by unfold shared; infer_instance

/-- What device `c` holds of the protocol: the shared records, and its own places and tokens. -/
def ghost (c : Dev nD) : sProp 𝕄 := iprop(∃ K, shared m K ∗ dealt c)

omit [FloatOps F] in
/-- A device's cells, all devices': the cells. -/
theorem over_cells (Φ : GSem nD τ sig → sProp 𝕄) :
    bigSep allCells Φ = bigSep Finset.univ fun c : Dev nD => bigSep Finset.univ fun i : Cid => Φ (kcell (c, i)) := by
  unfold allCells; rw [bigSep_map, bigSep_univ_prod]; rfl

/-- The protocol's starting state yields what is minted at every device's cells. -/
theorem fund : BI.own (ER (initOf allCells allToks)) ⊢ (|==> bigSep Finset.univ (minted m) : sProp 𝕄) := by
  have toks : bigSep allToks (fun t => (dutyTok ER t.1 t.2.1 t.2.2 : sProp 𝕄))
      = bigSep Finset.univ fun c : Dev nD => bigSep Finset.univ fun x : Due => dutyTok ER (kcell (c, cidOf x)) 0 (numOf x) := by
    unfold allToks; rw [bigSep_map, bigSep_univ_prod]; rfl
  iintro H
  imod (Rounds.fund ER (Rd m) allCells allToks) $$ H with ⟨Hst, Hr, Hat, Htok⟩
  imodintro
  ihave Hst := (Entails.of_eq (over_cells fun g => roundState ER (Rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq toks) $$ Htok
  unfold minted
  simp only [bigSep_sep']
  isplitl [Hst]; · iexact Hst
  isplitl [Hat Hr]
  · isplitl [Hat] <;> iassumption
  iexact Htok

omit [FloatOps F] in
/-- What stands at every own semaphore, family by family. -/
theorem over_own (Φ : Own → sProp 𝕄) :
    bigSep Finset.univ Φ
      = iprop((bigSep Finset.univ fun p : Fin 4 × Fin 3 => Φ (0, p)) ∗ (bigSep Finset.univ fun p : Fin 4 × Fin 3 => Φ (1, p))
        ∗ (bigSep Finset.univ fun p : Fin 4 × Fin 3 => Φ (2, p)) ∗ bigSep Finset.univ fun p : Fin 4 × Fin 3 => Φ (3, p)) :=
  (bigSep_univ_prod _).trans (bigSep_univ_eq_bigSepL [0, 1, 2, 3] (by decide) (by decide)
    (fun f : Fin 4 => bigSep Finset.univ fun p : Fin 4 × Fin 3 => Φ (f, p)))

omit [FloatOps F] in
/-- What stands at every cell of a device stands at the barrier's and at the others. -/
theorem over_cids (Φ : Cid → sProp 𝕄) :
    bigSep Finset.univ Φ = iprop(Φ (.inl ()) ∗ bigSep Finset.univ fun k : Own => Φ (.inr k)) := by
  have one : bigSep Finset.univ (fun u : Unit => Φ (.inl u)) = Φ (.inl ()) :=
    bigSep_univ_eq_bigSepL [()] (by decide) (by decide) (fun u : Unit => Φ (.inl u))
  rw [bigSep_univ_sum, one]
  rfl

/-! ## The semaphores -/

omit [FloatOps F] in
/-- The kernel's own semaphores at zero, one by one; -/
theorem ownSems0_eq (c : Dev nD) :
    (Pipeline.ownSems0 (Ix := Unit) (Name := ℕ) (U := UU) (Lvl := ℕ) (Val := Elt F) (τ := τ) ownSem c : sProp 𝕄)
      = bigSep Finset.univ fun k : Own => semVal (kcell (c, .inr k)) 0 := rfl

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores of a device, all zero at the start, cell by cell. -/
theorem sems0 (c : Dev nD) :
    iprop(Pipeline.ownSems0 (Ix := Unit) (Name := ℕ) (U := UU) (Lvl := ℕ) (Val := Elt F) (τ := τ) ownSem c ∗ unscopedSems0 c)
      ⊢ (bigSep Finset.univ fun i : Cid => semVal (kcell (c, i)) 0 : sProp 𝕄) := by
  have both : (iprop(semVal (barCell c) 0 ∗ bigSep Finset.univ fun k : Own => semVal (kcell (c, .inr k)) 0) : sProp 𝕄)
      ⊢ bigSep Finset.univ fun i : Cid => semVal (kcell (c, i)) 0 :=
    Entails.of_eq (over_cids fun i : Cid => (semVal (kcell (c, i)) 0 : sProp 𝕄)).symm
  rw [ownSems0_eq, unscopedSems0_eq]
  iintro ⟨Ho, Hb⟩
  iapply both
  isplitl [Hb] <;> iassumption

/-! ## Dealing -/

/-- Every cell of a device gets its invariant. -/
theorem open_cells (c : Dev nD) :
    iprop(Pipeline.ownSems0 (Ix := Unit) (Name := ℕ) (U := UU) (Lvl := ℕ) (Val := Elt F) (τ := τ) ownSem c ∗ unscopedSems0 c ∗ minted m c)
      ⊢ |={Set.univ}=> iprop((bigSep Finset.univ fun i : Cid => iprop(∃ κ : ℕ, cellInv ER (Rd m) κ (kcell (c, i))))
          ∗ (bigSep Finset.univ fun i : Cid => iprop(atPos ER (kcell (c, i)) 0 ∅ 0 ∗ reached ER (kcell (c, i)) 0))
          ∗ bigSep Finset.univ fun x : Due => dutyTok ER (kcell (c, cidOf x)) 0 (numOf x)) := by
  have alloc : iprop((bigSep Finset.univ fun i : Cid => semVal (kcell (c, i)) 0) ∗ bigSep Finset.univ fun i : Cid => roundState ER (Rd m) (kcell (c, i)) 0)
      ⊢ (|={Set.univ}=> bigSep Finset.univ fun i : Cid => iprop(∃ κ : ℕ, cellInv ER (Rd m) κ (kcell (c, i))) : sProp 𝕄) := by
    rw [← bigSep_sep']
    exact (bigSep_mono fun i _ => (Rounds.body_intro ER (Rd m) (kcell (c, i))).trans inv_alloc).trans (bigSep_fupd _ _)
  unfold minted
  iintro ⟨Ho, Hu, Hst, Hat, Htok⟩
  ihave Hv := (sems0 (F := F) c) $$ [Ho Hu]
  · isplitl [Ho] <;> iassumption
  imod alloc $$ [Hv Hst] with Hinv
  · isplitl [Hv] <;> iassumption
  imodintro
  isplitl [Hinv]; · iexact Hinv
  isplitl [Hat]; · iexact Hat
  iexact Htok

/-- Each due, with its device, to the device it lands on. -/
def landing : Dev nD × Due ≃ Dev nD × Due :=
  (Equiv.prodComm _ _).trans ((Equiv.prodShear (Equiv.refl Due) tgt).trans (Equiv.prodComm _ _))

omit [FloatOps F] in
/-- The tokens minted at the cells are those of the dues, device by device. -/
theorem deal_tokens :
    (bigSep Finset.univ fun c : Dev nD => bigSep Finset.univ fun x : Due => (dutyTok ER (kcell (c, cidOf x)) 0 (numOf x) : sProp 𝕄))
      = bigSep Finset.univ fun c : Dev nD => bigSep Finset.univ fun x : Due => dutyTok ER (dueCell c x) 0 (numOf x) := by
  rw [← bigSep_univ_prod (fun p : Dev nD × Due => (dutyTok ER (kcell (p.1, cidOf p.2)) 0 (numOf p.2) : sProp 𝕄)),
    bigSep_univ_equiv landing, bigSep_univ_prod]
  refine bigSep_congr fun c _ => bigSep_congr fun x _ => ?_
  cases x <;> rfl

omit [FloatOps F] in
/-- A shared resource can be used at every member of a set. -/
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants are shared and the tokens dealt. -/
theorem deal :
    (bigSep Finset.univ fun c : Dev nD => iprop((bigSep Finset.univ fun i : Cid => iprop(∃ κ : ℕ, cellInv ER (Rd m) κ (kcell (c, i))))
          ∗ (bigSep Finset.univ fun i : Cid => iprop(atPos ER (kcell (c, i)) 0 ∅ 0 ∗ reached ER (kcell (c, i)) 0))
          ∗ bigSep Finset.univ fun x : Due => dutyTok ER (kcell (c, cidOf x)) 0 (numOf x)) : sProp 𝕄)
      ⊢ bigSep Finset.univ (ghost m) := by
  rw [bigSep_sep', bigSep_sep', deal_tokens, ← bigSep_univ_prod (fun p : Dev nD × Cid => iprop(∃ κ : ℕ, cellInv ER (Rd m) κ (kcell p))),
    bigSep_congr (s := Finset.univ) (fun (c : Dev nD) _ => bigSep_sep' Finset.univ (fun i : Cid => (atPos ER (kcell (c, i)) 0 ∅ 0 : sProp 𝕄)) (fun i => reached ER (kcell (c, i)) 0)),
    bigSep_sep', ← bigSep_univ_prod (fun p : Dev nD × Cid => (reached ER (kcell p) 0 : sProp 𝕄))]
  iintro ⟨HI, ⟨Hat, #HR⟩, Htok⟩
  ihave HK := (BI.bigSep_exists_pi Finset.univ (fun (p : Dev nD × Cid) (κ : ℕ) => (cellInv ER (Rd m) κ (kcell p) : sProp 𝕄))) $$ HI
  icases HK with ⟨%K, #HI⟩
  have give : ∀ c ∈ (Finset.univ : Finset (Dev nD)), iprop(shared m K ∗ dealt c) ⊢ ghost m c := fun c _ => by
    unfold ghost
    iintro H
    iexists K
    iexact H
  have join : (iprop((bigSep Finset.univ fun c : Dev nD => bigSep Finset.univ fun i : Cid => atPos ER (kcell (c, i)) 0 ∅ 0)
        ∗ bigSep Finset.univ fun c : Dev nD => bigSep Finset.univ fun x : Due => dutyTok ER (dueCell c x) 0 (numOf x)) : sProp 𝕄)
      ⊢ bigSep Finset.univ fun c : Dev nD => dealt c := by
    unfold dealt; exact Entails.of_eq (bigSep_sep' _ _ _).symm
  iapply (with_shared (R := shared m K) give)
  isplitr
  · unfold shared; isplitl; · iexact HI
    iexact HR
  iapply join
  isplitl [Hat] <;> iassumption

/-- What the launch hands over, on all devices at once, becomes every device's ghost state. -/
theorem deal_all :
    (bigSep Finset.univ fun c => iprop(Pipeline.ownSems0 (Ix := Unit) (Name := ℕ) (U := UU) (Lvl := ℕ) (Val := Elt F) (τ := τ) ownSem c ∗ unscopedSems0 c ∗ minted m c) : sProp 𝕄)
      ⊢ |={Set.univ}=> bigSep Finset.univ (ghost m) :=
  ((bigSep_mono fun c _ => open_cells m c).trans (bigSep_fupd _ _)).trans (BI.fupd_mono (deal m))

/-! ## The credit of the arrivals -/

/-- What a device owes at the start. -/
abbrev O₀ (c : Dev nD) : CellTallies nD τ sig Unit := debt c payOrd

/-- A sum over a list of the terms that satisfy a condition is that over those terms. -/
theorem sum_those {I : Type} (l : List I) (p : I → Prop) [DecidablePred p] (a : I → ℕ) :
    (l.map fun x => if p x then a x else 0).sum = ((l.filter fun x => decide (p x)).map a).sum := by
  induction l with
  | nil => rfl
  | cons x l ih => by_cases h : p x <;> simp [h, ih]

/-- Of all devices' dues of a kind, just one lands on a given cell, and only if it is of that kind. -/
theorem one_lands (c : Dev nD) (i : Cid) (x : Due) :
    (∑ d : Dev nD, if kcell (c, i) = dueCell d x then amt x else 0) = if cidSem i = semOf x then amt x else 0 := by
  have key : ∀ d : Dev nD, (kcell (c, i) = dueCell d x) ↔ (d = (tgt x).symm c ∧ cidSem i = semOf x) := fun d => by
    constructor
    · intro e
      have h1 : c = tgt x d := congrArg (fun g : GSem nD τ sig => g.1.1) e
      exact ⟨by rw [h1, Equiv.symm_apply_apply], congrArg Prod.snd e⟩
    · rintro ⟨rfl, h2⟩
      show ((c : Thread nD τ), cidSem i) = ((tgt x ((tgt x).symm c) : Thread nD τ), semOf x)
      rw [Equiv.apply_symm_apply, h2]
  by_cases h : cidSem i = semOf x
  · simp only [key, h, and_true, if_true]
    rw [Finset.sum_ite_eq' Finset.univ ((tgt x).symm c) fun _ => amt x, if_pos (Finset.mem_univ _)]
  · simp only [key, h, and_false, if_false, Finset.sum_const_zero]

/-- What all devices together owe a cell. -/
theorem owed (c : Dev nD) (i : Cid) :
    (∑ d : Dev nD, O₀ d (kcell (c, i)) ()) = ((payOrd.filter fun x => decide (cidSem i = semOf x)).map amt).sum := by
  rw [← sum_those payOrd (fun x => cidSem i = semOf x) amt]
  simp only [debt_apply]
  generalize payOrd = l
  induction l with
  | nil => simp
  | cons x l ih => simp only [List.map_cons, List.sum_cons, Finset.sum_add_distrib, one_lands, ih]

/-- The dues on the barrier. -/
theorem dues_bar : (payOrd.filter fun x => decide (cidSem (.inl ()) = semOf x)) = [.inl 2, .inl 1, .inl 0] := by decide +kernel
/-- The one due on the cell of a scattered piece's arrival. -/
theorem dues_scatter : ∀ p : Fin 4 × Fin 3, (payOrd.filter fun x => decide (cidSem (.inr (1, p)) = semOf x)) = [.inr (1, p)] := by decide +kernel
/-- The one due on the cell of a gathered piece's arrival. -/
theorem dues_gather : ∀ p : Fin 4 × Fin 3, (payOrd.filter fun x => decide (cidSem (.inr (3, p)) = semOf x)) = [.inr (3, p)] := by decide +kernel

/-- So a cell's launch credit is what it is owed. -/
theorem launch_credit (c : Dev nD) (i : Cid) {n : ℕ} (h : ((payOrd.filter fun x => decide (cidSem i = semOf x)).map amt).sum = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same, owed, h]

omit [FloatOps F] in
/-- The credit a device starts with: the barrier's three units, and a piece's amount at each arrival. -/
theorem credits (c : Dev nD) :
    (Pipeline.launchCred O₀ c : sProp 𝕄)
      ⊢ iprop(cred (tallyAt (barCell c) () 3) ∗ (bigSep Finset.univ fun p : Fin 4 × Fin 3 => cred (tallyAt (cell c 1 p.1 p.2) () N))
        ∗ bigSep Finset.univ fun p : Fin 4 × Fin 3 => cred (tallyAt (cell c 3 p.1 p.2) () N)) := by
  let Φ : Cid → sProp 𝕄 := fun i => cred (tallyOn (kcell (c, i)) (launchCredit (Pipeline.owing O₀) 0 (kcell (c, i))))
  have named : (Pipeline.launchCred O₀ c : sProp 𝕄) ⊢ bigSep Finset.univ Φ := by
    have those : bigSep Finset.univ Φ = bigSep (Finset.univ.map ⟨cidSem, cidSem_injective⟩) fun sm : SemLoc sig =>
        (cred (tallyOn ((c.tc : Thread nD τ), sm) (launchCredit (Pipeline.owing O₀) 0 ((c.tc : Thread nD τ), sm))) : sProp 𝕄) := by
      rw [bigSep_map]; rfl
    rw [those]
    unfold Pipeline.launchCred
    exact bigSep_subset (Finset.subset_univ _)
  have parts : bigSep Finset.univ Φ
      ⊢ iprop(Φ (.inl ()) ∗ (bigSep Finset.univ fun p : Fin 4 × Fin 3 => Φ (.inr (0, p)))
        ∗ (bigSep Finset.univ fun p : Fin 4 × Fin 3 => Φ (.inr (1, p)))
        ∗ (bigSep Finset.univ fun p : Fin 4 × Fin 3 => Φ (.inr (2, p))) ∗ bigSep Finset.univ fun p : Fin 4 × Fin 3 => Φ (.inr (3, p))) :=
    Entails.of_eq ((over_cids Φ).trans (congrArg (fun X : sProp 𝕄 => iprop(Φ (.inl ()) ∗ X)) (over_own fun k => Φ (.inr k))))
  have bar : Φ (.inl ()) = cred (tallyAt (barCell c) () 3) :=
    congrArg cred (launch_credit c (.inl ()) (by rw [dues_bar]; rfl))
  have sc : ∀ p : Fin 4 × Fin 3, Φ (.inr (1, p)) = cred (tallyAt (cell c 1 p.1 p.2) () N) := fun p =>
    congrArg cred (launch_credit c (.inr (1, p)) (by rw [dues_scatter p]; exact Nat.add_zero N))
  have ga : ∀ p : Fin 4 × Fin 3, Φ (.inr (3, p)) = cred (tallyAt (cell c 3 p.1 p.2) () N) := fun p =>
    congrArg cred (launch_credit c (.inr (3, p)) (by rw [dues_gather p]; exact Nat.add_zero N))
  iintro H
  ihave H := named $$ H
  ihave H := parts $$ H
  rw [bar, bigSep_congr (s := Finset.univ) (fun p _ => sc p), bigSep_congr (s := Finset.univ) (fun p _ => ga p)]
  icases H with ⟨Hb, -, Hs, -, Hg⟩
  isplitl [Hb]; · iexact Hb
  isplitl [Hs] <;> iassumption

end Cert.AllReduce

end
-- ==== Proof.Result.lean ====
/-
# The result as one block

The pieces of the result, each known, make up one block of known contents: an entry is that of its piece.
-/
module

public import proofs.«01_k».proof.Proof.Rows

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The device and row block an entry's row belongs to, -/
def ownerOf (i : S512x512.Idx) : Fin 4 := ⟨(i 0).val / 128, by have : (i 0).val < 512 := (i 0).isLt; omega⟩
/-- the row block, -/
def blockOf (i : S512x512.Idx) : Fin 4 := ⟨(i 0).val % 128 / 32, by omega⟩
/-- and where in that piece it stands. -/
def withinOf (i : S512x512.Idx) : S32x512.Idx := fun
  | ⟨0, _⟩ => ⟨(i 0).val % 32, Nat.mod_lt _ (by decide)⟩
  | ⟨1, _⟩ => i 1

/-- An entry is found in its piece. -/
theorem emb_within (i : S512x512.Idx) : (rowR (ownerOf i) (blockOf i)).emb (withinOf i) = i := by
  funext a
  refine Fin.ext ?_
  rw [Rect.emb_apply]
  match a with
  | ⟨0, _⟩ =>
    show 128 * ((i 0).val / 128) + 32 * ((i 0).val % 128 / 32) + 1 * ((i 0).val % 32) = (i 0).val
    omega
  | ⟨1, _⟩ =>
    show 0 + 1 * (i 1).val = (i 1).val
    omega

/-- Device `c`'s result: at each entry what its piece has there. -/
def outAt (c : Dev nD) : Vec F S512x512 .f32 := fun i => outv m c (ownerOf i) (blockOf i) (withinOf i)

/-- A block with every piece in place is that result. -/
theorem out_whole (c : Dev nD) (f : Vec F S512x512 .f32)
    (hf : ∀ x, x ∉ ([] : List Key) → (outM.access (rowR (srcOf c x).1 (srcOf c x).2)).read (Elt F) f = outv m c (srcOf c x).1 (srcOf c x).2) :
    f = outAt m c := by
  funext i
  obtain ⟨x, hx⟩ := srcOf_surjective c (ownerOf i, blockOf i)
  have h := congrFun (hf x List.not_mem_nil) (withinOf i)
  rw [hx] at h
  refine Eq.trans ?_ h
  exact (congrArg f (emb_within i)).symm

/-- An entry of a piece of the staged block is that block's entry there. -/
theorem piece_within (c : Dev nD) (i : S512x512.Idx) : piece m c (ownerOf i) (blockOf i) (withinOf i) = xin m c i :=
  congrArg (xin m c) (emb_within i)

end Cert.AllReduce

end
-- ==== Proof.Ends.lean ====
/-
# Into the body and out of it

What a device has at the start of its body makes up `entry`; what `exit` leaves makes up the buffers and semaphores that
the launch takes back.
-/
module

public import proofs.«01_k».proof.Proof.Body
public import proofs.«01_k».proof.Proof.Ghost
public import proofs.«01_k».proof.Proof.Result

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel's four scratch buffers, whole, with whatever contents. -/
def scratch (c : Dev nD) : sProp 𝕄 :=
  iprop((∃ f, xbM.view.loc (c : Thread nD τ) ↦{fullShare} f) ∗ (∃ f, redM.view.loc (c : Thread nD τ) ↦{fullShare} f)
    ∗ (∃ f, rsM.view.loc (c : Thread nD τ) ↦{fullShare} f) ∗ (∃ f, agM.view.loc (c : Thread nD τ) ↦{fullShare} f))

/-- The credit of the arrivals. -/
def credit (c : Dev nD) : sProp 𝕄 :=
  iprop(cred (tallyAt (barCell c) () 3) ∗ (bigSep Finset.univ fun p : Fin 4 × Fin 3 => cred (tallyAt (cell c 1 p.1 p.2) () N))
    ∗ bigSep Finset.univ fun p : Fin 4 × Fin 3 => cred (tallyAt (cell c 3 p.1 p.2) () N))

omit [FloatOps F] in
/-- What stands at every row block and slot, slot by slot, the slots mirrored. -/
theorem by_slot (Φ : Fin 4 × Fin 3 → sProp 𝕄) :
    bigSep Finset.univ Φ = bigSep Finset.univ fun d : Fin 3 => bigSep Finset.univ fun h : Fin 4 => Φ (h, d.rev) := by
  rw [bigSep_univ_equiv (Equiv.prodComm (Fin 3) (Fin 4)), bigSep_univ_prod, bigSep_univ_equiv Fin.revPerm]
  rfl

omit [FloatOps F] in
/-- What stands at every due stands at the signals' and at the copies'. -/
theorem over_dues (Φ : Due → sProp 𝕄) :
    bigSep Finset.univ Φ = iprop((bigSep Finset.univ fun d : Fin 3 => Φ (.inl d)) ∗ bigSep Finset.univ fun k : Own => Φ (.inr k)) :=
  bigSep_univ_sum Φ

/-- Every piece of the result is put in place. -/
theorem all_out (x : Key) : x ∈ outOrd := by
  rcases x with h | ⟨h, s⟩
  · fin_cases h <;> simp
  fin_cases h <;> fin_cases s <;> simp

/-- What a device has at the start of its body. -/
theorem entry_intro (K : Dev nD × Cid → ℕ) (c : Dev nD) :
    iprop(records m K ∗ owing c payOrd ∗ dealt c ∗ credit c ∗ inHeld m c ∗ (∃ f, outM.view.loc (c : Thread nD τ) ↦{fullShare} f) ∗ scratch c)
      ⊢ entry m K c := by
  unfold dealt credit scratch entry
  rw [over_cids, over_own, over_dues, over_own]
  rw [← bigSep_univ_eq_bigSepL [(2 : Fin 3), 1, 0] (by decide) (by decide), ← bigSep_univ_eq_bigSepL [(0 : Fin 4), 1, 2, 3] (by decide) (by decide),
    ← bigSep_univ_eq_bigSepL recvOrd (by decide) (by decide), ← bigSep_univ_eq_bigSepL recvOrd (by decide) (by decide),
    ← bigSep_univ_eq_bigSepL sendOrd (by decide) (by decide), ← bigSep_univ_eq_bigSepL sendOrd (by decide) (by decide)]
  have slabs : (iprop((∃ f, rsM.view.loc (c : Thread nD τ) ↦{fullShare} f) ∗ (∃ f, agM.view.loc (c : Thread nD τ) ↦{fullShare} f)) : sProp 𝕄)
      ⊢ bigSep Finset.univ fun d : Fin 3 => bigSep Finset.univ fun h : Fin 4 =>
        iprop(holdAny (F := F) c (rsSlab h d.rev) ∗ holdAny (F := F) c (agSlab h d.rev)) := by
    rw [← by_slot (fun p : Fin 4 × Fin 3 => iprop(holdAny (F := F) c (rsSlab p.1 p.2) ∗ holdAny (F := F) c (agSlab p.1 p.2))), bigSep_sep']
    iintro ⟨Hr, Ha⟩
    isplitl [Hr]
    · iapply (rs_split c); iexact Hr
    iapply (ag_split c); iexact Ha
  iintro ⟨#HR, HO, ⟨⟨Hab, Ha0, Ha1, Ha2, Ha3⟩, Hts, Ht0, Ht1, Ht2, Ht3⟩, ⟨Hcb, Hc1, Hc3⟩, Hx, ⟨%g, Hout⟩, Hxb, Hred, Hrs, Hag⟩
  isplitr; · iexact HR
  isplitl [HO]; · iexact HO
  isplitl [Hcb Hab]
  · isplitl [Hcb] <;> iassumption
  isplitl [Hts Hrs Hag]
  · unfold signal
    rw [bigSep_sep']
    isplitl [Hts]; · iexact Hts
    iapply slabs
    isplitl [Hrs] <;> iassumption
  isplitl [Hx]; · iexact Hx
  isplitl [Hxb]; · iexact Hxb
  isplitl [Hout]
  · unfold outHeld
    iexists g
    isplitr
    · ipureintro; exact fun x hx => absurd (all_out x) hx
    iexact Hout
  isplitl [Hred]; · iapply (red_split c); iexact Hred
  unfold waiting pend tokens
  simp only [bigSep_sep']
  isplitl [Hc1 Ha1]
  · isplitl [Hc1] <;> iassumption
  isplitl [Hc3 Ha3]
  · isplitl [Hc3] <;> iassumption
  isplitl [Ht0 Ht1 Ha0]
  · isplitl [Ht0]; · iexact Ht0
    isplitl [Ht1]; · iexact Ht1
    iexact Ha0
  isplitl [Ht2]; · iexact Ht2
  isplitl [Ht3]; · iexact Ht3
  iexact Ha2

/-- What a hold shows is forgotten. -/
theorem hold_any (c : Dev nD) (M : Memref sig .tc .vmem S32x512 .bf16) (v : Vec F S32x512 .bf16) : hold c M fullShare v ⊢ holdAny c M := by
  unfold holdAny
  iintro H
  iexists v
  iexact H

/-- What a device has at the end of its body. -/
theorem exit_elim (c : Dev nD) :
    exit m c
      ⊢ iprop(owing c [] ∗ inHeld m c ∗ (outM.view.loc (c : Thread nD τ) ↦{fullShare} outAt m c)
        ∗ semVal (barCell c) 0 ∗ (bigSep Finset.univ fun k : Own => semVal (kcell (c, .inr k)) 0) ∗ scratch c) := by
  unfold exit scratch landed
  rw [over_own]
  simp only [bigSep_sep', ownPay_0, ownPay_1, ownPay_2, ownPay_3]
  have xb : (iprop((bigSep Finset.univ fun h : Fin 4 => holdAny (F := F) c (xbRows c h))
        ∗ bigSep Finset.univ fun p : Fin 4 × Fin 3 => hold c (xbRows (dn p.2 c) p.1) fullShare (piece m c (dn p.2 c) p.1)) : sProp 𝕄)
      ⊢ iprop(∃ f, xbM.view.loc (c : Thread nD τ) ↦{fullShare} f) := by
    have all : (iprop((bigSep Finset.univ fun h : Fin 4 => holdAny (F := F) c (xbAt c (.inl h)))
          ∗ bigSep Finset.univ fun p : Fin 4 × Fin 3 => holdAny (F := F) c (xbAt c (.inr p))) : sProp 𝕄)
        ⊢ bigSep Finset.univ fun x : Key => holdAny (F := F) c (xbAt c x) := by
      rw [bigSep_univ_sum (fun x : Key => holdAny (F := F) c (xbAt c x))]
      exact Entails.of_eq rfl
    have any : (bigSep Finset.univ fun p : Fin 4 × Fin 3 => hold c (xbRows (dn p.2 c) p.1) fullShare (piece m c (dn p.2 c) p.1) : sProp 𝕄)
        ⊢ bigSep Finset.univ fun p : Fin 4 × Fin 3 => holdAny (F := F) c (xbAt c (.inr p)) := bigSep_mono fun p _ => hold_any c _ _
    iintro ⟨Ho, Hs⟩
    iapply (xb_join m c)
    iapply all
    isplitl [Ho]; · iexact Ho
    iapply any; iexact Hs
  have rs : (bigSep Finset.univ fun p : Fin 4 × Fin 3 => hold c (rsSlab p.1 p.2) fullShare (piece m (up p.2 c) c p.1) : sProp 𝕄)
      ⊢ bigSep Finset.univ fun p : Fin 4 × Fin 3 => holdAny (F := F) c (rsSlab p.1 p.2) := bigSep_mono fun p _ => hold_any c _ _
  have ag : (bigSep Finset.univ fun p : Fin 4 × Fin 3 => hold c (agSlab p.1 p.2) fullShare (redBf m (up p.2 c) p.1) : sProp 𝕄)
      ⊢ bigSep Finset.univ fun p : Fin 4 × Fin 3 => holdAny (F := F) c (agSlab p.1 p.2) := bigSep_mono fun p _ => hold_any c _ _
  have rd : (bigSep Finset.univ fun p : Fin 4 × Fin 3 => third m c p : sProp 𝕄)
      ⊢ bigSep Finset.univ fun h : Fin 4 => holdAny (F := F) c (redSlab h) := by
    rw [bigSep_univ_prod]
    exact bigSep_mono fun h _ => thirds_hold m c h
  iintro ⟨HO, Hx, Hout, Hb, ⟨Hz0, Hp0⟩, ⟨Hz1, Hp1⟩, ⟨Hz2, Hp2⟩, ⟨Hz3, Hp3⟩, Hown⟩
  isplitl [HO]; · iexact HO
  isplitl [Hx]; · iexact Hx
  isplitl [Hout]
  · unfold outHeld
    icases Hout with ⟨%f, %hf, Hf⟩
    rw [out_whole m c f hf]
    iexact Hf
  isplitl [Hb]; · iexact Hb
  isplitl [Hz0 Hz1 Hz2 Hz3]
  · isplitl [Hz0]; · iexact Hz0
    isplitl [Hz1]; · iexact Hz1
    isplitl [Hz2] <;> iassumption
  isplitl [Hp0 Hown]
  · iapply xb
    isplitl [Hown] <;> iassumption
  isplitl [Hp2]
  · iapply (red_join c (fun _ => default)); iapply rd; iexact Hp2
  isplitl [Hp1]
  · iapply (rs_join c (fun _ => default)); iapply rs; iexact Hp1
  iapply (ag_join c (fun _ => default)); iapply ag; iexact Hp3

end Cert.AllReduce

end
-- ==== Proof.Launch.lean ====
/-
# The launch

The body meets the obligation of the launch, and so, on every mesh of four devices and for any float values, every fair
run of the kernel terminates, leaves the arrays as computed and every semaphore at zero.
-/
module

public import proofs.«01_k».proof.Proof.Ends
public import proofs.«01_k».proof.Proof.Gen.KernelIdeal.Launch
public import proofs.«01_k».proof.Proof.Gen.KernelIdeal.Points
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory a run starts from. -/
def mem₀ : MemSt nD τ sig (Elt F) := ⟨m, fun _ => 0, ρ⟩

/-- There is one grid point. -/
theorem one_point (t : Fin cfg0.N) : t = t0_0 := fin_N0 t

/-- What a device's body starts from, besides its buffers, -/
def start (c : Dev nD) : sProp 𝕄 := iprop(ghost m c ∗ credit c ∗ levAts L lv)
/-- and all it has before its point -/
def before₀ (c : Dev nD) : sProp 𝕄 := iprop(start m c ∗ scratch c)
/-- and after it. -/
def after₀ (c : Dev nD) : sProp 𝕄 :=
  iprop(semVal (barCell c) 0 ∗ (bigSep Finset.univ fun k : Own => semVal (kcell (c, .inr k)) 0) ∗ scratch (F := F) c)

/-- The launch's data: what the staging buffers hold, what a device has around its point, and what it owes. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outAt m c
  Φ t := match t with
    | ⟨0, _⟩ => before₀ m c
    | ⟨_ + 1, _⟩ => after₀ c
  q _ := fullShare
  owed t := match t with
    | ⟨0, _⟩ => O₀ c
    | ⟨_ + 1, _⟩ => 0

omit [FloatOps F] in
/-- A whole buffer, owned and known. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns
  simp only [Memref.view_whole, View.read_whole, View.set_whole]

/-- A staging buffer holding `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

set_option maxRecDepth 16000 in
/-- What the launch gives the body, -/
def given (c : Dev nD) : sProp 𝕄 :=
  iprop(before₀ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))

/-- and what it wants back. -/
def wanted (c : Dev nD) : sProp 𝕄 :=
  iprop(after₀ c ∗ (dats m 0 c).owesAt () t0_0.succ ∗ staged c cc0_stg0_0 (xin m c) ∗ staged c cc0_stg1_0 (outAt m c))

/-- The staging buffer of the argument holds the device's block when the body starts. -/
theorem fetched (c : Dev nD) (d) : (dats m 0 c).before (0 : Fin 2) t0_0 d = xin m c := by
  unfold Dat.before
  rw [if_pos (fetch0_0 t0_0)]
  rfl

/-- What is given opens the body, -/
theorem given_entry (c : Dev nD) : given m c ⊢ iprop(∃ K, entry m K c) := by
  unfold given before₀ start ghost shared Dat.owesAt Pipeline.owesWithin
  iintro ⟨⟨⟨⟨%K, #HI, Hd⟩, Hcr, #HL⟩, Hs⟩, ⟨%W, %hW, HO⟩, ⟨%d, %g, %hg, Hx⟩, ⟨%d', %g', -, Hout⟩⟩
  rw [fetched m c d] at hg
  subst hg
  iexists K
  iapply (entry_intro m K c)
  isplitr
  · unfold records
    icases HI with ⟨#HA, #HB⟩
    isplitr; · iexact HA
    isplitr; · iexact HB
    iexact HL
  isplitl [HO]
  · unfold owing; iexists W; iexact HO
  isplitl [Hd]; · iexact Hd
  isplitl [Hcr]; · iexact Hcr
  isplitl [Hx]; · unfold inHeld; iexact Hx
  isplitl [Hout]; · iexists g'; iexact Hout
  iexact Hs

/-- and what the body leaves is what is wanted. -/
theorem exit_wanted (c : Dev nD) : exit m c ⊢ wanted m c := by
  unfold wanted after₀ Dat.owesAt Pipeline.owesWithin
  iintro H
  ihave H := (exit_elim m c) $$ H
  unfold owing inHeld
  icases H with ⟨⟨%W, HO⟩, Hx, Hout, Hb, Hz, Hs⟩
  isplitl [Hb Hz Hs]
  · isplitl [Hb]; · iexact Hb
    isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 16000 in
/-- The launch's obligation of the body. -/
theorem obliged (c : Dev nD) : BodyObligation (dats m 0 c) (defs₀ (F := F)) 𝒱₀ () Set.univ := fun t => by
  rw [one_point t, bigSep_W0, bigSep_W0]
  simp only [owns_whole]
  show given m c ⊢ wp frame (wpE (defs₀ (F := F)) 𝒱₀ (c : Thread nD τ) none) Set.univ
    (cc0_body inM (Memref.isWhole_whole _) outM (Memref.isWhole_whole _) xbM (Memref.isWhole_whole _) redM (Memref.isWhole_whole _)
      rsM (Memref.isWhole_whole _) agM (Memref.isWhole_whole _) cc0_scratch4 cc0_scratch5 cc0_scratch6 cc0_scratch7) (fun _ => wanted m c)
  iintro H
  ihave H := (given_entry m c) $$ H
  icases H with ⟨%K, H⟩
  iapply (body_run m K c)
  isplitl [H]; · iexact H
  iintro H
  iapply (exit_wanted m c); iexact H

/-- The kernel's own semaphores are distinct and apart from the pipeline's. -/
theorem own_facts : Pipeline.OwnSemFacts cfg0.spec ownSem := by decide

/-- Every array is held whole. -/
theorem whole_share (c : Dev nD) (w : Fin cfg0.W) : (dats m 0 c).share w = fullShare := by unfold Dat.share; split <;> rfl

/-- What the launch gives a device makes up its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, HL, Hc, -, HG⟩
  ihave Hc := (credits (F := F) c) $$ Hc
  imodintro
  unfold start credit
  isplitl
  · isplitl [HG]; · iexact HG
    isplitl [Hc] <;> iassumption
  iempintro

/-- The start and the scratch buffers make up what the body needs before its one step. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀ scratch
  iintro ⟨Hs, -, Hr⟩
  isplitl [Hs] <;> iassumption

/-- What the body leaves gives back the semaphores at zero and the scratch buffers. -/
theorem after_elim (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after₀ c from rfl, scopedRest0_eq, ownSems0_eq, unscopedSems0_eq]
  unfold after₀ scratch
  iintro H
  iexact H

/-- The staging semaphores rank below all that is owed. -/
theorem above_staging (sm : SemLoc sig) (h : rank sm = 0) : ∀ x ∈ payOrd, rank sm < rank (semOf x) := by
  rw [h]; decide

/-- The pipeline's own waits respect the order of waiting. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_below c _ payOrd (above_staging _ (by fin_cases w <;> fin_cases s <;> decide))
    exact mayWait_below c _ [] (fun x hx => absurd hx (List.not_mem_nil))

/-- An array after the run. -/
def finalA (c : Dev nD) (w : Fin cfg0.W) : Buf (Elt F) ((cfg0.win w).arr.view.loc (c : Thread nD τ)) := (dats m 0 c).arrAt w cfg0.N

/-- Every array is as computed. -/
def Finished (r : PUnit × MemSt nD τ sig (Elt F)) : Prop :=
  ∀ c : Dev nD, ∀ w : Fin cfg0.W, r.2.mem ((cfg0.win w).arr.view.loc (c : Thread nD τ)) = finalA m c w

set_option maxRecDepth 8000 in
/-- For any float values and from any memory with the semaphores at zero, every fair run of the kernel on its four devices
    terminates; every final state has each array as computed and every semaphore at zero. -/
theorem run_main : θ_run defs (onTc (τ := τ) (main (F := F))) (mem₀ m ρ) (fun r => Finished m r ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := obliged m) (hne := fun w => by fin_cases w <;> exact Nat.succ_pos _) (harr := arr_whole0) (hstage := stage_whole0)
    (hshare := whole_share m) (hdistinct := winFacts0.arr_inj)
    (O₀ := O₀) (howed₀ := fun _ => rfl) (howedN := fun _ => rfl)
    (L := L) (lv := lv) (hL := L_of_ne) (hwaits := waits m)
    (G := minted m) (G' := ghost m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := deal_all m)
    (hA := fun _ _ => rfl) (hpf := fun _ k => k.elim0)
    (X := start m) (Y := fun c => unscopedSems0 c) (Z := fun _ => iprop(emp))
    (hX := start_intro m ρ) (hin := before_intro m) (hout := after_elim m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's block is as before after the run. -/
theorem finalA_in (c : Dev nD) : finalA m c (0 : Fin 2) = m (win0_0.arr.view.loc (c : Thread nD τ)) :=
  (dats m 0 c).arrAt_in (0 : Fin 2) rfl _

end Cert.AllReduce

end
-- ==== Proof.Value.lean ====
/-
# The value

The array a device ends with is `outAt`; read in the extended reals, each of its elements is the sum of the four devices'
elements there, and so is the reference's.
-/
module

public import proofs.«01_k».proof.Proof.Launch
public import proofs.«01_k».proof.Proof.Gen.ReferenceIdeal.Run
public import Idealize.ShloMosaic.Lib.Pipeline.ValueKit
public import Idealize.ShloMosaic.Lib.Pointwise
public import Idealize.ShloMosaic.Lib.IdealHost

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- A device's staged block is its whole argument array. -/
theorem xin_eq (c : Dev nD) : xin m c = m ((c : Thread nD τ).loc main_arg0) := by
  funext i
  have first : ∀ a : Fin 2, win0_0.index (0 : Fin 1) a = 0 := by decide +kernel
  unfold xin
  rw [View.read_apply]
  refine congrArg (m ((c : Thread nD τ).loc main_arg0)) (funext fun a => Fin.ext ?_)
  blk_simp
  exact (congrArg (· * win0_0.size a + (i a).val) (first a)).trans (by rw [Nat.zero_mul, Nat.zero_add])

/-- The result array after the run is the assembled result. -/
theorem finalA_out (c : Dev nD) : finalA m c (1 : Fin 2) = outAt m c :=
  (dats m 0 c).arrAt_eq_of_after_last (1 : Fin 2) t0_0 (by decide +kernel) _ fun j => rfl

section AtIdeal

variable (mi : (ℓ : Loc nD τ sig) → Buf (Elt Ideal) ℓ)

/-- An element of a device's argument array, an extended real. -/
def argAt (d : Dev nD) (i : S512x512.Idx) : EReal := mi ((d : Thread nD τ).loc main_arg0) i

omit mi in
/-- A sum over the devices, from any one of them on, in the order in which it adds them up. -/
theorem sum_from (g : Dev nD → EReal) (o : Dev nD) : g o + g (up 2 o) + g (up 0 o) + g (up 1 o) = ∑ d, g d := by
  rw [show ∑ d, g d = g 0 + g 1 + g 2 + g 3 from Fin.sum_univ_four g]
  fin_cases o
  · show g 0 + g 3 + g 1 + g 2 = _; ac_rfl
  · show g 1 + g 0 + g 2 + g 3 = _; ac_rfl
  · show g 2 + g 1 + g 3 + g 0 = _; ac_rfl
  show g 3 + g 2 + g 0 + g 1 = _; ac_rfl

/-- Each element of a device's result is the sum over the devices of their elements there. -/
theorem outAt_sum (c : Dev nD) (i : S512x512.Idx) : outAt mi c i = ∑ d : Dev nD, argAt mi d i := by
  have same : ∀ (o h : Fin 4) (j : S32x512.Idx), outv mi c o h j = red mi o h j := fun o h j => by
    unfold outv
    split
    · next e => subst e; rfl
    rfl
  have there : ∀ d : Dev nD, argAt mi d i = piece mi d (ownerOf i) (blockOf i) (withinOf i) := fun d => by
    rw [piece_within, xin_eq]; rfl
  rw [← sum_from (fun d => argAt mi d i) (ownerOf i)]
  simp only [there]
  exact same _ _ _

end AtIdeal

/-- The reference's result, of its argument. -/
def refOut (x : Vec Ideal Cert.ReferenceIdeal.S2048x512 .bf16) : Vec Ideal Cert.ReferenceIdeal.S512x512 .f32 :=
  Host.reduceAdd (F := Ideal) (shapeCast _ (extf (F := Ideal) .f32 x Cert.ReferenceIdeal.Gen.bitsLt_bf16_f32) Cert.ReferenceIdeal.Gen.shapeCasts_S2048x512_S4x512x512)
    (constant Cert.ReferenceIdeal.S_ .f32 0x00000000#32) Cert.ReferenceIdeal.Gen.reducesTo_S4x512x512_S512x512_d0 Cert.ReferenceIdeal.Gen.h_S_

/-- An element of block `d` of the reference's argument, an extended real. -/
def blockAt (x : Vec Ideal Cert.ReferenceIdeal.S2048x512 .bf16) (d : Fin 4) (i : S512x512.Idx) : EReal :=
  (Layout.block ⟨2, ![512, 512]⟩ ⟨2, ![2048, 512]⟩ 0 4 d x : S512x512.Idx → EReal) i

/-- Each element of the reference's result is the sum over the four row ranges of its argument's elements there. -/
theorem refOut_sum (x : Vec Ideal Cert.ReferenceIdeal.S2048x512 .bf16) (i : S512x512.Idx) : refOut x i = ∑ d : Fin 4, blockAt x d i := by
  unfold refOut
  rw [hostReduceAdd_apply, Ideal.hostReduceAdd_r3_a0]
  rw [show (constant (F := Ideal) Cert.ReferenceIdeal.S_ .f32 0x00000000#32) (Shape.Idx.first Cert.ReferenceIdeal.Gen.h_S_) = (0 : EReal) from Ideal.ofBits_zero_f32, zero_add]
  refine Finset.sum_congr rfl fun d _ => ?_
  refine (shapeCast_apply (extf (F := Ideal) .f32 x Cert.ReferenceIdeal.Gen.bitsLt_bf16_f32) _ _
    (Layout.Tiles.idx (S := S512x512) (T := Cert.ReferenceIdeal.S2048x512) (a := 0) (k := 4) (by decide) d i) ?_).trans rfl
  rw [Shape.rowMajor_val_two, Shape.rowMajor_val_three]
  rfl

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

set_option smartUnfolding false in
/-- The kernel as compiled runs on: it ends with its arguments as they were and every semaphore at zero. -/
theorem frame_kernel : Cert.quiescent_Kernel := fun m ρ _ =>
  (θ_run (Cert.KernelIdeal.defs (F := Bits)) _ _).mono
    (fun _ h => ⟨fun c => (h.1 c (0 : Fin 2)).trans (Cert.AllReduce.finalA_in m c), h.2⟩) (Cert.AllReduce.run_main (F := Bits) m ρ)

/-- So does the kernel read in the extended reals. -/
theorem frame_ideal : Cert.quiescent_KernelIdeal := fun m ρ _ =>
  (θ_run (Cert.KernelIdeal.defs (F := Ideal)) _ _).mono
    (fun _ h => ⟨fun c => (h.1 c (0 : Fin 2)).trans (Cert.AllReduce.finalA_in m c), h.2⟩) (Cert.AllReduce.run_main (F := Ideal) m ρ)

/-- So does the reference. -/
theorem frame_reference : Cert.quiescent_ReferenceIdeal := fun m ρ _ =>
  (θ_run (Cert.ReferenceIdeal.defs (F := Ideal)) _ _).mono
    (fun _ h => ⟨fun c => (h c).2, funext fun g => nomatch g.2⟩) (Cert.ReferenceIdeal.Value.run (F := Ideal) m ρ)

/-- In the extended reals, every device ends with the reference's result. -/
theorem same_values : Cert.algebraic_KernelIdeal_ReferenceIdeal := fun m ρ m' ρ' _ hm => by
  have same : ∀ c, Cert.AllReduce.outAt m c = Cert.AllReduce.refOut (m' (((0 : Dev Cert.ReferenceIdeal.nD).tc : Thread _ Cert.ReferenceIdeal.τ).loc Cert.ReferenceIdeal.main_arg0)) := fun c => by
    funext i
    refine (Cert.AllReduce.outAt_sum m c i).trans (Eq.trans ?_ (Cert.AllReduce.refOut_sum _ i).symm)
    exact Finset.sum_congr rfl fun d _ => congrFun (hm d) i
  refine ⟨_, (θ_run (Cert.KernelIdeal.defs (F := Ideal)) _ _).mono (fun _ h c => ⟨?_, ?_⟩) (Cert.AllReduce.run_main (F := Ideal) m ρ),
    (θ_run (Cert.ReferenceIdeal.defs (F := Ideal)) _ _).mono (fun _ h => h 0) (Cert.ReferenceIdeal.Value.run (F := Ideal) m' ρ')⟩
  · exact (h.1 c (1 : Fin 2)).trans ((Cert.AllReduce.finalA_out m c).trans (same c))
  exact (h.1 c (0 : Fin 2)).trans (Cert.AllReduce.finalA_in m c)

/-- All the claims. -/
theorem claim : Cert.Claim :=
  ⟨Cert.Kernel.Gen.facts, Cert.KernelIdeal.Gen.facts, Cert.ReferenceIdeal.Gen.facts, frame_kernel, frame_ideal, frame_reference, trivial, same_values⟩

end Cert.Proof

end
